-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x18432 : Shape := ⟨3, ![256, 1, 18432]⟩
abbrev S4608x72x128 : Shape := ⟨3, ![4608, 72, 128]⟩
abbrev S4608x72x64 : Shape := ⟨3, ![4608, 72, 64]⟩
abbrev S4608x72x16 : Shape := ⟨3, ![4608, 72, 16]⟩
abbrev S4608x72 : Shape := ⟨2, ![4608, 72]⟩
abbrev S256x18432 : Shape := ⟨2, ![256, 18432]⟩
abbrev S72x64x4608 : Shape := ⟨3, ![72, 64, 4608]⟩
abbrev S72x16x4608 : Shape := ⟨3, ![72, 16, 4608]⟩
abbrev S72x4608 : Shape := ⟨2, ![72, 4608]⟩
abbrev S256x4608 : Shape := ⟨2, ![256, 4608]⟩
abbrev S512x8x128 : Shape := ⟨3, ![512, 8, 128]⟩
abbrev S8x64x512 : Shape := ⟨3, ![8, 64, 512]⟩
abbrev S8x16x512 : Shape := ⟨3, ![8, 16, 512]⟩
abbrev S8x512 : Shape := ⟨2, ![8, 512]⟩
abbrev S256x512 : Shape := ⟨2, ![256, 512]⟩
abbrev S2x4x128x128 : Shape := ⟨4, ![2, 4, 128, 128]⟩
abbrev S4x512 : Shape := ⟨2, ![4, 512]⟩
abbrev S1x16x512 : Shape := ⟨3, ![1, 16, 512]⟩
abbrev S16x512 : Shape := ⟨2, ![16, 512]⟩
abbrev S1x512 : Shape := ⟨2, ![1, 512]⟩
abbrev S128x8x128 : Shape := ⟨3, ![128, 8, 128]⟩
abbrev S128x2x128 : Shape := ⟨3, ![128, 2, 128]⟩
abbrev S128x1x128 : Shape := ⟨3, ![128, 1, 128]⟩
abbrev S128x128 : Shape := ⟨2, ![128, 128]⟩
abbrev S1x1x128x128 : Shape := ⟨4, ![1, 1, 128, 128]⟩
abbrev S1x1x32x128 : Shape := ⟨4, ![1, 1, 32, 128]⟩
abbrev S32x128 : Shape := ⟨2, ![32, 128]⟩
abbrev S1x64x128 : Shape := ⟨3, ![1, 64, 128]⟩
abbrev S64x128 : Shape := ⟨2, ![64, 128]⟩
abbrev S16x128 : Shape := ⟨2, ![16, 128]⟩
abbrev S1x1x128 : Shape := ⟨3, ![1, 1, 128]⟩
abbrev S1x128 : Shape := ⟨2, ![1, 128]⟩
abbrev S256x128 : Shape := ⟨2, ![256, 128]⟩
abbrev S256x256 : Shape := ⟨2, ![256, 256]⟩

abbrev nBuf : Space → Nat
  | .hbm => 10
  | .vmem => 14
  | .smem => 0
  | _ => 0

abbrev bufTy : (tb : Table) → Fin (tcTables nBuf tb) → BufTy
  | .hbm, ⟨0, _⟩ => ⟨S256x1x18432, .bf16⟩
  | .hbm, ⟨1, _⟩ => ⟨S4608x72x128, .i8⟩
  | .hbm, ⟨2, _⟩ => ⟨S4608x72x64, .i8⟩
  | .hbm, ⟨3, _⟩ => ⟨S4608x72x16, .i8⟩
  | .hbm, ⟨4, _⟩ => ⟨S4608x72, .i16⟩
  | .hbm, ⟨5, _⟩ => ⟨S256x18432, .bf16⟩
  | .hbm, ⟨6, _⟩ => ⟨S72x64x4608, .i8⟩
  | .hbm, ⟨7, _⟩ => ⟨S72x16x4608, .i8⟩
  | .hbm, ⟨8, _⟩ => ⟨S72x4608, .i16⟩
  | .hbm, ⟨9, _⟩ => ⟨S256x4608, .bf16⟩
  | .local _ .vmem, ⟨0, _⟩ => ⟨S256x18432, .bf16⟩
  | .local _ .vmem, ⟨1, _⟩ => ⟨S512x8x128, .i8⟩
  | .local _ .vmem, ⟨2, _⟩ => ⟨S512x8x128, .i8⟩
  | .local _ .vmem, ⟨3, _⟩ => ⟨S8x64x512, .i8⟩
  | .local _ .vmem, ⟨4, _⟩ => ⟨S8x64x512, .i8⟩
  | .local _ .vmem, ⟨5, _⟩ => ⟨S8x16x512, .i8⟩
  | .local _ .vmem, ⟨6, _⟩ => ⟨S8x16x512, .i8⟩
  | .local _ .vmem, ⟨7, _⟩ => ⟨S8x512, .i16⟩
  | .local _ .vmem, ⟨8, _⟩ => ⟨S8x512, .i16⟩
  | .local _ .vmem, ⟨9, _⟩ => ⟨S256x512, .bf16⟩
  | .local _ .vmem, ⟨10, _⟩ => ⟨S256x512, .bf16⟩
  | .local _ .vmem, ⟨11, _⟩ => ⟨S256x512, .f32⟩
  | .local _ .vmem, ⟨12, _⟩ => ⟨S2x4x128x128, .i32⟩
  | .local _ .vmem, ⟨13, _⟩ => ⟨S8x16x512, .bf16⟩
  | _, _ => ⟨S256x1x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![9, 9], ![false, false]⟩

def k0_mult1 (i : grid0.Coords) : BitVec 32 :=
  let arg1 : BitVec 32 := BitVec.ofNat 32 (i 1).val
  let c2048_i32 : BitVec 32 := 2048#32
  let v2784 : BitVec 32 := Scalar.muli arg1 c2048_i32
  v2784
def k0_off1 (i : grid0.Coords) (c0_i32_1287 : BitVec 32) : Fin 2 → Nat :=
  let c0_1290 : Index := 0#32
  let arg1 : BitVec 32 := BitVec.ofNat 32 (i 1).val
  let c2048_i32 : BitVec 32 := 2048#32
  let v2784 : BitVec 32 := Scalar.muli arg1 c2048_i32
  let v2785 : BitVec 32 := v2784
  let v2786 : BitVec 32 := Scalar.addi v2785 c0_i32_1287
  let v2789 : Index := Scalar.indexCast v2786
  ![0, v2789.toNat]
def k0_mult2 (i : grid0.Coords) : BitVec 32 :=
  let arg1 : BitVec 32 := BitVec.ofNat 32 (i 1).val
  let c2048_i32_1294 : BitVec 32 := 2048#32
  let v2797 : BitVec 32 := Scalar.muli arg1 c2048_i32_1294
  v2797
def k0_mult3 (i : grid0.Coords) : BitVec 32 :=
  let arg1 : BitVec 32 := BitVec.ofNat 32 (i 1).val
  let c2048_i32_1301 : BitVec 32 := 2048#32
  let v2810 : BitVec 32 := Scalar.muli arg1 c2048_i32_1301
  v2810
def k0_mult4 (i : grid0.Coords) : BitVec 32 :=
  let arg1 : BitVec 32 := BitVec.ofNat 32 (i 1).val
  let c2048_i32_1308 : BitVec 32 := 2048#32
  let v2823 : BitVec 32 := Scalar.muli arg1 c2048_i32_1308
  v2823
def k0_mult5 (i : grid0.Coords) : BitVec 32 :=
  let arg1 : BitVec 32 := BitVec.ofNat 32 (i 1).val
  let c2048_i32_2559 : BitVec 32 := 2048#32
  let v5460 : BitVec 32 := Scalar.muli arg1 c2048_i32_2559
  v5460
def k0_mult6 (i : grid0.Coords) : BitVec 32 :=
  let arg1 : BitVec 32 := BitVec.ofNat 32 (i 1).val
  let c2048_i32_2566 : BitVec 32 := 2048#32
  let v5473 : BitVec 32 := Scalar.muli arg1 c2048_i32_2566
  v5473
def k0_mult7 (i : grid0.Coords) : BitVec 32 :=
  let arg1 : BitVec 32 := BitVec.ofNat 32 (i 1).val
  let c2048_i32_2573 : BitVec 32 := 2048#32
  let v5486 : BitVec 32 := Scalar.muli arg1 c2048_i32_2573
  v5486
def k0_mult8 (i : grid0.Coords) : BitVec 32 :=
  let arg1 : BitVec 32 := BitVec.ofNat 32 (i 1).val
  let c2048_i32_2580 : BitVec 32 := 2048#32
  let v5499 : BitVec 32 := Scalar.muli arg1 c2048_i32_2580
  v5499
def k0_cond2 (i : grid0.Coords) : BitVec 1 :=
  let arg1 : BitVec 32 := BitVec.ofNat 32 (i 1).val
  let c8_i32_2587 : BitVec 32 := 8#32
  let v5512 : BitVec 1 := Scalar.cmpi .eq arg1 c8_i32_2587
  let v5513 : BitVec 32 := Scalar.extui v5512
  let c0_i32_2588 : BitVec 32 := 0#32
  let v5514 : BitVec 1 := Scalar.cmpi .ne v5513 c0_i32_2588
  v5514

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S256x18432 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x8x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x16x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S256x1x18432 : Shape := ⟨3, ![256, 1, 18432]⟩
abbrev S4608x72x128 : Shape := ⟨3, ![4608, 72, 128]⟩
abbrev S4608x72x64 : Shape := ⟨3, ![4608, 72, 64]⟩
abbrev S4608x72x16 : Shape := ⟨3, ![4608, 72, 16]⟩
abbrev S4608x72 : Shape := ⟨2, ![4608, 72]⟩
abbrev S256x72x2x128 : Shape := ⟨4, ![256, 72, 2, 128]⟩
abbrev S_ : Shape := ⟨0, ![]⟩
abbrev S4608x72x1 : Shape := ⟨3, ![4608, 72, 1]⟩
abbrev S4608x72x16x1 : Shape := ⟨4, ![4608, 72, 16, 1]⟩
abbrev S4608x72x16x16 : Shape := ⟨4, ![4608, 72, 16, 16]⟩
abbrev S4608x72x256 : Shape := ⟨3, ![4608, 72, 256]⟩
abbrev S1x1x128 : Shape := ⟨3, ![1, 1, 128]⟩
abbrev S256x72x1x128 : Shape := ⟨4, ![256, 72, 1, 128]⟩
abbrev S256x72x128 : Shape := ⟨3, ![256, 72, 128]⟩
abbrev S256x4608 : Shape := ⟨2, ![256, 4608]⟩

abbrev nBuf : Space → Nat
  | .hbm => 128
  | .vmem => 0
  | .smem => 0
  | _ => 0

abbrev bufTy : (tb : Table) → Fin (tcTables nBuf tb) → BufTy
  | .hbm, ⟨0, _⟩ => ⟨S256x1x18432, .bf16⟩
  | .hbm, ⟨1, _⟩ => ⟨S4608x72x128, .i8⟩
  | .hbm, ⟨2, _⟩ => ⟨S4608x72x64, .i8⟩
  | .hbm, ⟨3, _⟩ => ⟨S4608x72x16, .i8⟩
  | .hbm, ⟨4, _⟩ => ⟨S4608x72, .i16⟩
  | .hbm, ⟨5, _⟩ => ⟨S256x72x2x128, .bf16⟩
  | .hbm, ⟨6, _⟩ => ⟨S4608x72x128, .i32⟩
  | .hbm, ⟨7, _⟩ => ⟨S4608x72x64, .i32⟩
  | .hbm, ⟨8, _⟩ => ⟨S4608x72x16, .i32⟩
  | .hbm, ⟨9, _⟩ => ⟨S4608x72, .i32⟩
  | .hbm, ⟨10, _⟩ => ⟨S_, .i32⟩
  | .hbm, ⟨11, _⟩ => ⟨S4608x72, .i32⟩
  | .hbm, ⟨12, _⟩ => ⟨S4608x72, .i32⟩
  | .hbm, ⟨13, _⟩ => ⟨S_, .i32⟩
  | .hbm, ⟨14, _⟩ => ⟨S4608x72, .i32⟩
  | .hbm, ⟨15, _⟩ => ⟨S4608x72, .i32⟩
  | .hbm, ⟨16, _⟩ => ⟨S_, .i32⟩
  | .hbm, ⟨17, _⟩ => ⟨S4608x72, .i32⟩
  | .hbm, ⟨18, _⟩ => ⟨S4608x72, .i32⟩
  | .hbm, ⟨19, _⟩ => ⟨S_, .i32⟩
  | .hbm, ⟨20, _⟩ => ⟨S4608x72, .i32⟩
  | .hbm, ⟨21, _⟩ => ⟨S4608x72, .i32⟩
  | .hbm, ⟨22, _⟩ => ⟨S_, .i32⟩
  | .hbm, ⟨23, _⟩ => ⟨S4608x72, .i32⟩
  | .hbm, ⟨24, _⟩ => ⟨S4608x72, .i32⟩
  | .hbm, ⟨25, _⟩ => ⟨S_, .i32⟩
  | .hbm, ⟨26, _⟩ => ⟨S4608x72, .i32⟩
  | .hbm, ⟨27, _⟩ => ⟨S4608x72, .i32⟩
  | .hbm, ⟨28, _⟩ => ⟨S4608x72, .f32⟩
  | .hbm, ⟨29, _⟩ => ⟨S_, .i32⟩
  | .hbm, ⟨30, _⟩ => ⟨S4608x72, .i32⟩
  | .hbm, ⟨31, _⟩ => ⟨S4608x72, .i1⟩
  | .hbm, ⟨32, _⟩ => ⟨S_, .i32⟩
  | .hbm, ⟨33, _⟩ => ⟨S4608x72, .i32⟩
  | .hbm, ⟨34, _⟩ => ⟨S4608x72, .i32⟩
  | .hbm, ⟨35, _⟩ => ⟨S4608x72, .i32⟩
  | .hbm, ⟨36, _⟩ => ⟨S4608x72, .f32⟩
  | .hbm, ⟨37, _⟩ => ⟨S4608x72, .f32⟩
  | .hbm, ⟨38, _⟩ => ⟨S_, .i32⟩
  | .hbm, ⟨39, _⟩ => ⟨S4608x72, .i32⟩
  | .hbm, ⟨40, _⟩ => ⟨S4608x72, .i1⟩
  | .hbm, ⟨41, _⟩ => ⟨S_, .i32⟩
  | .hbm, ⟨42, _⟩ => ⟨S4608x72, .i32⟩
  | .hbm, ⟨43, _⟩ => ⟨S4608x72, .i1⟩
  | .hbm, ⟨44, _⟩ => ⟨S_, .f32⟩
  | .hbm, ⟨45, _⟩ => ⟨S_, .f32⟩
  | .hbm, ⟨46, _⟩ => ⟨S4608x72, .f32⟩
  | .hbm, ⟨47, _⟩ => ⟨S4608x72, .f32⟩
  | .hbm, ⟨48, _⟩ => ⟨S4608x72, .f32⟩
  | .hbm, ⟨49, _⟩ => ⟨S4608x72, .f32⟩
  | .hbm, ⟨50, _⟩ => ⟨S4608x72, .f32⟩
  | .hbm, ⟨51, _⟩ => ⟨S_, .i32⟩
  | .hbm, ⟨52, _⟩ => ⟨S4608x72, .i32⟩
  | .hbm, ⟨53, _⟩ => ⟨S4608x72, .i1⟩
  | .hbm, ⟨54, _⟩ => ⟨S4608x72, .f32⟩
  | .hbm, ⟨55, _⟩ => ⟨S4608x72, .f32⟩
  | .hbm, ⟨56, _⟩ => ⟨S4608x72x1, .f32⟩
  | .hbm, ⟨57, _⟩ => ⟨S4608x72x16, .f32⟩
  | .hbm, ⟨58, _⟩ => ⟨S4608x72x16, .f32⟩
  | .hbm, ⟨59, _⟩ => ⟨S4608x72x16, .f32⟩
  | .hbm, ⟨60, _⟩ => ⟨S4608x72x16, .bf16⟩
  | .hbm, ⟨61, _⟩ => ⟨S4608x72x16x1, .bf16⟩
  | .hbm, ⟨62, _⟩ => ⟨S4608x72x16x16, .bf16⟩
  | .hbm, ⟨63, _⟩ => ⟨S4608x72x256, .bf16⟩
  | .hbm, ⟨64, _⟩ => ⟨S4608x72x128, .i32⟩
  | .hbm, ⟨65, _⟩ => ⟨S1x1x128, .i32⟩
  | .hbm, ⟨66, _⟩ => ⟨S_, .i32⟩
  | .hbm, ⟨67, _⟩ => ⟨S1x1x128, .i32⟩
  | .hbm, ⟨68, _⟩ => ⟨S1x1x128, .i1⟩
  | .hbm, ⟨69, _⟩ => ⟨S_, .i32⟩
  | .hbm, ⟨70, _⟩ => ⟨S_, .i32⟩
  | .hbm, ⟨71, _⟩ => ⟨S1x1x128, .i32⟩
  | .hbm, ⟨72, _⟩ => ⟨S1x1x128, .i32⟩
  | .hbm, ⟨73, _⟩ => ⟨S1x1x128, .i32⟩
  | .hbm, ⟨74, _⟩ => ⟨S_, .i32⟩
  | .hbm, ⟨75, _⟩ => ⟨S4608x72x128, .i32⟩
  | .hbm, ⟨76, _⟩ => ⟨S4608x72x128, .i32⟩
  | .hbm, ⟨77, _⟩ => ⟨S_, .i32⟩
  | .hbm, ⟨78, _⟩ => ⟨S4608x72x128, .i32⟩
  | .hbm, ⟨79, _⟩ => ⟨S4608x72x128, .i32⟩
  | .hbm, ⟨80, _⟩ => ⟨S_, .i32⟩
  | .hbm, ⟨81, _⟩ => ⟨S1x1x128, .i32⟩
  | .hbm, ⟨82, _⟩ => ⟨S1x1x128, .i32⟩
  | .hbm, ⟨83, _⟩ => ⟨S1x1x128, .i32⟩
  | .hbm, ⟨84, _⟩ => ⟨S4608x72x128, .i32⟩
  | .hbm, ⟨85, _⟩ => ⟨S4608x72x128, .i32⟩
  | .hbm, ⟨86, _⟩ => ⟨S_, .i32⟩
  | .hbm, ⟨87, _⟩ => ⟨S4608x72x128, .i32⟩
  | .hbm, ⟨88, _⟩ => ⟨S4608x72x128, .i32⟩
  | .hbm, ⟨89, _⟩ => ⟨S_, .i32⟩
  | .hbm, ⟨90, _⟩ => ⟨S4608x72x128, .i32⟩
  | .hbm, ⟨91, _⟩ => ⟨S4608x72x128, .i32⟩
  | .hbm, ⟨92, _⟩ => ⟨S4608x72x128, .i32⟩
  | .hbm, ⟨93, _⟩ => ⟨S4608x72x128, .f32⟩
  | .hbm, ⟨94, _⟩ => ⟨S4608x72x128, .bf16⟩
  | .hbm, ⟨95, _⟩ => ⟨S_, .bf16⟩
  | .hbm, ⟨96, _⟩ => ⟨S4608x72x128, .bf16⟩
  | .hbm, ⟨97, _⟩ => ⟨S4608x72x128, .bf16⟩
  | .hbm, ⟨98, _⟩ => ⟨S4608x72x128, .bf16⟩
  | .hbm, ⟨99, _⟩ => ⟨S4608x72x128, .bf16⟩
  | .hbm, ⟨100, _⟩ => ⟨S256x72x1x128, .bf16⟩
  | .hbm, ⟨101, _⟩ => ⟨S256x72x128, .bf16⟩
  | .hbm, ⟨102, _⟩ => ⟨S256x4608, .f32⟩
  | .hbm, ⟨103, _⟩ => ⟨S_, .i32⟩
  | .hbm, ⟨104, _⟩ => ⟨S1x1x128, .i32⟩
  | .hbm, ⟨105, _⟩ => ⟨S1x1x128, .i32⟩
  | .hbm, ⟨106, _⟩ => ⟨S1x1x128, .i32⟩
  | .hbm, ⟨107, _⟩ => ⟨S4608x72x128, .i32⟩
  | .hbm, ⟨108, _⟩ => ⟨S4608x72x128, .i32⟩
  | .hbm, ⟨109, _⟩ => ⟨S_, .i32⟩
  | .hbm, ⟨110, _⟩ => ⟨S4608x72x128, .i32⟩
  | .hbm, ⟨111, _⟩ => ⟨S4608x72x128, .i32⟩
  | .hbm, ⟨112, _⟩ => ⟨S_, .i32⟩
  | .hbm, ⟨113, _⟩ => ⟨S4608x72x128, .i32⟩
  | .hbm, ⟨114, _⟩ => ⟨S4608x72x128, .i32⟩
  | .hbm, ⟨115, _⟩ => ⟨S4608x72x128, .i32⟩
  | .hbm, ⟨116, _⟩ => ⟨S4608x72x128, .f32⟩
  | .hbm, ⟨117, _⟩ => ⟨S4608x72x128, .bf16⟩
  | .hbm, ⟨118, _⟩ => ⟨S_, .bf16⟩
  | .hbm, ⟨119, _⟩ => ⟨S4608x72x128, .bf16⟩
  | .hbm, ⟨120, _⟩ => ⟨S4608x72x128, .bf16⟩
  | .hbm, ⟨121, _⟩ => ⟨S4608x72x128, .bf16⟩
  | .hbm, ⟨122, _⟩ => ⟨S4608x72x128, .bf16⟩
  | .hbm, ⟨123, _⟩ => ⟨S256x72x1x128, .bf16⟩
  | .hbm, ⟨124, _⟩ => ⟨S256x72x128, .bf16⟩
  | .hbm, ⟨125, _⟩ => ⟨S256x4608, .f32⟩
  | .hbm, ⟨126, _⟩ => ⟨S256x4608, .f32⟩
  | .hbm, ⟨127, _⟩ => ⟨S256x4608, .bf16⟩
  | _, _ => ⟨S256x1x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_7 : Ref sig .tc := ⟨.hbm, 38, rfl⟩
abbrev main_v25 : Ref sig .tc := ⟨.hbm, 39, rfl⟩
abbrev main_v26 : Ref sig .tc := ⟨.hbm, 40, rfl⟩
abbrev main_c_8 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_cst_9 : Ref sig .tc := ⟨.hbm, 45, rfl⟩
abbrev main_call1_v0 : Ref sig .tc := ⟨.hbm, 46, rfl⟩
abbrev main_call1_v1 : Ref sig .tc := ⟨.hbm, 47, rfl⟩
abbrev main_v29 : Ref sig .tc := ⟨.hbm, 48, rfl⟩
abbrev main_call2_v0 : Ref sig .tc := ⟨.hbm, 49, rfl⟩
abbrev main_v30 : Ref sig .tc := ⟨.hbm, 50, rfl⟩
abbrev main_c_10 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_v46 : Ref sig .tc := ⟨.hbm, 68, rfl⟩
abbrev main_c_12 : Ref sig .tc := ⟨.hbm, 69, rfl⟩
abbrev main_c_13 : Ref sig .tc := ⟨.hbm, 70, rfl⟩
abbrev main_call4_v0 : Ref sig .tc := ⟨.hbm, 71, rfl⟩
abbrev main_call4_v1 : Ref sig .tc := ⟨.hbm, 72, rfl⟩
abbrev main_v47 : Ref sig .tc := ⟨.hbm, 73, rfl⟩
abbrev main_c_14 : Ref sig .tc := ⟨.hbm, 74, rfl⟩
abbrev main_v48 : Ref sig .tc := ⟨.hbm, 75, rfl⟩
abbrev main_v49 : Ref sig .tc := ⟨.hbm, 76, rfl⟩
abbrev main_c_15 : Ref sig .tc := ⟨.hbm, 77, rfl⟩
abbrev main_v50 : Ref sig .tc := ⟨.hbm, 78, rfl⟩
abbrev main_v51 : Ref sig .tc := ⟨.hbm, 79, rfl⟩
abbrev main_c_16 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_17 : Ref sig .tc := ⟨.hbm, 86, rfl⟩
abbrev main_v57 : Ref sig .tc := ⟨.hbm, 87, rfl⟩
abbrev main_v58 : Ref sig .tc := ⟨.hbm, 88, rfl⟩
abbrev main_c_18 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_19 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_20 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_21 : Ref sig .tc := ⟨.hbm, 109, rfl⟩
abbrev main_v76 : Ref sig .tc := ⟨.hbm, 110, rfl⟩
abbrev main_v77 : Ref sig .tc := ⟨.hbm, 111, rfl⟩
abbrev main_c_22 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_23 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]
-- ==== Proof.Value.Body.lean ====
module

public import proofs.«01_k».proof.Proof.Gen.KernelIdeal.Value

@[expose] public section

set_option maxRecDepth 16384

noncomputable section

namespace Cert.KernelIdeal.Gen

open Idealize.ShloMosaic Idealize.ShloMosaic.TcCoe Idealize.ShloMosaic.Tactic

variable {F : FTy → Type} [FloatOps F]

/-! # The dequantized block of one super block, as the body builds it

The body's stored pieces are words named by the run; here are the few functions they are instances of. -/

/-- A row of words as the strided load of the transposed codes gives it. -/
def row (r : Vec F S1x1x32x128 .i32) : IVec S32x128 32 := shapeCast S32x128 r shapeCasts_S1x1x32x128_S32x128

/-- The even bytes of `a` between the even bytes of `b`. -/
def pack8 (a b : IVec S32x128 32) : IVec S32x128 32 :=
  ori (andi a (broadcast S32x128 16711935#32)) (shli (andi b (broadcast S32x128 16711935#32)) (broadcast S32x128 8#32))

/-- The rows shifted down by a byte. -/
def down8 (r : IVec S32x128 32) : IVec S32x128 32 := shrui r (broadcast S32x128 8#32)

/-- The rows shifted down by a half word. -/
def down16 (r : IVec S32x128 32) : IVec S32x128 32 := shrui r (broadcast S32x128 16#32)

/-- Byte 0 of the four row words, one word per row. -/
def lj0 (r0 r1 r2 r3 : Vec F S1x1x32x128 .i32) : IVec S32x128 32 :=
  packElementwiseI16 (pack8 (row r0) (row r1)) (pack8 (row r2) (row r3))
/-- Byte 1 of the four row words, one word per row. -/
def lj1 (r0 r1 r2 r3 : Vec F S1x1x32x128 .i32) : IVec S32x128 32 :=
  packElementwiseI16 (pack8 (down8 (row r0)) (down8 (row r1))) (pack8 (down8 (row r2)) (down8 (row r3)))
/-- Byte 2 of the four row words, one word per row. -/
def lj2 (r0 r1 r2 r3 : Vec F S1x1x32x128 .i32) : IVec S32x128 32 :=
  packElementwiseI16 (down16 (pack8 (row r0) (row r1))) (down16 (pack8 (row r2) (row r3)))
/-- Byte 3 of the four row words, one word per row. -/
def lj3 (r0 r1 r2 r3 : Vec F S1x1x32x128 .i32) : IVec S32x128 32 :=
  packElementwiseI16 (down16 (pack8 (down8 (row r0)) (down8 (row r1)))) (down16 (pack8 (down8 (row r2)) (down8 (row r3))))

/-- The two high bits of the codes, four bytes a word, with the top bit of each field flipped. -/
def qw (v : Vec F S1x64x128 .i8) : IVec S16x128 32 :=
  xori (bitcast S16x128 32 (shapeCast S64x128 v shapeCasts_S1x64x128_S64x128) bitcasts_S64x128_w8_S16x128_w32)
    (broadcast S16x128 2863311530#32)

/-- The low bits `l` and the high bits `h` of four codes a word, each byte 4 times its code less 128. -/
def merge (l h : IVec S16x128 32) : IVec S16x128 32 :=
  ori (andi l (broadcast S16x128 1010580540#32)) (andi h (broadcast S16x128 3233857728#32))

/-- Half 0 or 1 of the rows of low nibbles. -/
def half0 (l : IVec S32x128 32) : IVec S16x128 32 := extractStridedSlice S16x128 ![0, 0] l slices_S32x128_o0_0_S16x128
@[inherit_doc half0]
def half1 (l : IVec S32x128 32) : IVec S16x128 32 := extractStridedSlice S16x128 ![16, 0] l slices_S32x128_o16_0_S16x128

/-- The codes of the quarter `f` of the super block. -/
def code (f : Fin 4) (l : IVec S32x128 32) (q : IVec S16x128 32) : IVec S16x128 32 :=
  match f with
  | 0 => merge (shli (half0 l) (broadcast S16x128 2#32)) (shli q (broadcast S16x128 6#32))
  | 1 => merge (shli (half1 l) (broadcast S16x128 2#32)) (shli q (broadcast S16x128 4#32))
  | 2 => merge (shrui (half0 l) (broadcast S16x128 2#32)) (shli q (broadcast S16x128 2#32))
  | 3 => merge (shrui (half1 l) (broadcast S16x128 2#32)) q

/-- The codes of a quarter as floats, one byte an element. -/
def codeF (w : IVec S16x128 32) : FVec F S64x128 .bf16 := sitofp .bf16 (bitcast S64x128 8 w bitcasts_S16x128_w32_S64x128_w8)

/-- The scale of a sub block, at each of its sixteen rows. -/
def scaleRows (e : Vec F S1x1x128 .bf16) : FVec F S16x128 .bf16 :=
  broadcastTo S16x128 (shapeCast S1x128 (shapeCast S1x128 e shapeCasts_S1x1x128_S1x128) shapeCasts_S1x128_S1x128)
    broadcasts_S1x128_S16x128

/-- Sub block `t` of a quarter: its sixteen rows of codes times its scale. -/
def piece (t : Fin 4) (w : IVec S16x128 32) (e : Vec F S1x1x128 .bf16) : FVec F S16x128 .bf16 :=
  match t with
  | 0 => mulf (extractStridedSlice S16x128 ![0, 0] (codeF (F := F) w) slices_S64x128_o0_0_S16x128) (scaleRows e)
  | 1 => mulf (extractStridedSlice S16x128 ![16, 0] (codeF (F := F) w) slices_S64x128_o16_0_S16x128) (scaleRows e)
  | 2 => mulf (extractStridedSlice S16x128 ![32, 0] (codeF (F := F) w) slices_S64x128_o32_0_S16x128) (scaleRows e)
  | 3 => mulf (extractStridedSlice S16x128 ![48, 0] (codeF (F := F) w) slices_S64x128_o48_0_S16x128) (scaleRows e)

/-- 128 columns of the dequantized super block. -/
def wob (l : IVec S32x128 32) (qv : Vec F S1x64x128 .i8) (e : Fin 16 → Vec F S1x1x128 .bf16) : FVec F S256x128 .bf16 :=
  concatenate S256x128 0 [
    ⟨S16x128, piece 0 (code 0 l (qw qv)) (e 0)⟩,
    ⟨S16x128, piece 1 (code 0 l (qw qv)) (e 1)⟩,
    ⟨S16x128, piece 2 (code 0 l (qw qv)) (e 2)⟩,
    ⟨S16x128, piece 3 (code 0 l (qw qv)) (e 3)⟩,
    ⟨S16x128, piece 0 (code 1 l (qw qv)) (e 4)⟩,
    ⟨S16x128, piece 1 (code 1 l (qw qv)) (e 5)⟩,
    ⟨S16x128, piece 2 (code 1 l (qw qv)) (e 6)⟩,
    ⟨S16x128, piece 3 (code 1 l (qw qv)) (e 7)⟩,
    ⟨S16x128, piece 0 (code 2 l (qw qv)) (e 8)⟩,
    ⟨S16x128, piece 1 (code 2 l (qw qv)) (e 9)⟩,
    ⟨S16x128, piece 2 (code 2 l (qw qv)) (e 10)⟩,
    ⟨S16x128, piece 3 (code 2 l (qw qv)) (e 11)⟩,
    ⟨S16x128, piece 0 (code 3 l (qw qv)) (e 12)⟩,
    ⟨S16x128, piece 1 (code 3 l (qw qv)) (e 13)⟩,
    ⟨S16x128, piece 2 (code 3 l (qw qv)) (e 14)⟩,
    ⟨S16x128, piece 3 (code 3 l (qw qv)) (e 15)⟩]
    concatenates_S16x128_S16x128_S16x128_S16x128_S16x128_S16x128_S16x128_S16x128_S16x128_S16x128_S16x128_S16x128_S16x128_S16x128_S16x128_S16x128_S256x128_d0

/-- The dequantized super block: its four groups of 128 columns. -/
def wt (w : Fin 4 → FVec F S256x128 .bf16) : FVec F S256x512 .bf16 :=
  concatenate S256x512 1 [⟨S256x128, w 0⟩, ⟨S256x128, w 1⟩, ⟨S256x128, w 2⟩, ⟨S256x128, w 3⟩]
    concatenates_S256x128_S256x128_S256x128_S256x128_S256x512_d1

end Cert.KernelIdeal.Gen
-- ==== Proof.Value.Loads.lean ====
module

public import proofs.«01_k».proof.Proof.Value.Body
public import Idealize.ShloMosaic.Lib.Pointwise
public import Idealize.ShloMosaic.Lib.Pipeline.ValueKit.Tiles

@[expose] public section

set_option maxRecDepth 16384

noncomputable section

namespace Cert.KernelIdeal.Gen

open Idealize.ShloMosaic Idealize.ShloMosaic.TcCoe Idealize.ShloMosaic.Tactic

variable {F : FTy → Type} [FloatOps F]

/-! # What the body loads: its blocks and what it left in its scratch -/

/-- The load of every fourth row of a transposed block of code words, from row `i`. -/
def ltRd (g : Fin 2) (ob i : Fin 4) : LoadRect S2x4x128x128 :=
  ⟨![g.val, ob.val, i.val, 0], S1x1x32x128.size, ![1, 1, 4, 1], by revert g ob i; decide⟩

/-- The load of one row of scales at 128 columns. -/
def effRd (n : Fin 8) (s : Fin 16) (ob : Fin 4) : Rect S8x16x512 :=
  Rect.unit (s := S8x16x512) ![n.val, s.val, 128 * ob.val] S1x1x128.size (by revert n s ob; decide)

/-- The load of a super block's high bits at 128 columns. -/
def qhRd (n : Fin 8) (ob : Fin 4) : Rect S8x64x512 :=
  Rect.unit (s := S8x64x512) ![n.val, 0, 128 * ob.val] S1x64x128.size (by revert n ob; decide)

/-- The load of 128 rows of low nibbles. -/
def qlRd (ob : Fin 4) : Rect S512x8x128 :=
  Rect.unit (s := S512x8x128) ![128 * ob.val, 0, 0] S128x8x128.size (by revert ob; decide)

/-- The store of a transposed block of code words. -/
def ltSt (g : Fin 2) (ob : Fin 4) : Rect S2x4x128x128 :=
  Rect.unit (s := S2x4x128x128) ![g.val, ob.val, 0, 0] S1x1x128x128.size (by revert g ob; decide)

/-- The store of a super block's scales. -/
def effSt (n : Fin 8) : Rect S8x16x512 :=
  Rect.unit (s := S8x16x512) ![n.val, 0, 0] S1x16x512.size (by revert n; decide)

/-- The transposed block of code words: super blocks `4 g` to `4 g + 3`, one byte each. -/
def ltPay (g : Fin 2) (v : Vec F S128x8x128 .i8) : IVec S1x1x128x128 32 :=
  match g with
  | 0 => k0_pay17 v
  | 1 => k0_pay464 v

/-- The scales of the super blocks of even number (`b = 0`) or odd number (`b = 1`), a quarter of each. -/
def d4 (x4 : Vec F S8x512 .i16) (b : Fin 2) : FVec F S4x512 .f32 :=
  match b with
  | 0 => k0_pay5 x4
  | 1 => k0_pay6 (k0_pay4 x4)

/-- A super block's scales times its sub blocks' scales. -/
def effPay (h : Fin 4) (d : FVec F S4x512 .f32) (v : Vec F S1x16x512 .i8) : FVec F S1x16x512 .bf16 :=
  match h with
  | 0 => k0_pay8 (truncf .bf16 (mulf (broadcastTo S16x512 (extractStridedSlice S1x512 ![0, 0] d slices_S4x512_o0_0_S1x512) broadcasts_S1x512_S16x512) (k0_pay15 v)) bitsLt_bf16_f32)
  | 1 => k0_pay10 d v
  | 2 => k0_pay12 d v
  | 3 => k0_pay14 d v

/-- Rows of the block of low nibbles. -/
def qlv (x1 : Vec F S512x8x128 .i8) (ob : Fin 4) : Vec F S128x8x128 .i8 :=
  fun j => x1 (ix3 ⟨128 * ob.val + (j 0).val, by have h : (j 0).val < 128 := (j 0).isLt; omega⟩ (j 1) (j 2))

/-- A super block's high bits at 128 columns. -/
def qhv (x2 : Vec F S8x64x512 .i8) (n : Fin 8) (ob : Fin 4) : Vec F S1x64x128 .i8 :=
  fun j => x2 (ix3 n (j 1) ⟨128 * ob.val + (j 2).val, by have h : (j 2).val < 128 := (j 2).isLt; omega⟩)

/-- A super block's sub block scales. -/
def scv (x3 : Vec F S8x16x512 .i8) (n : Fin 8) : Vec F S1x16x512 .i8 := fun j => x3 (ix3 n (j 1) (j 2))

/-- A super block's scales, as stored. -/
def effB (x3 : Vec F S8x16x512 .i8) (x4 : Vec F S8x512 .i16) (n : Fin 8) : FVec F S1x16x512 .bf16 :=
  effPay ⟨n.val / 2, by omega⟩ (d4 x4 ⟨n.val % 2, by omega⟩) (scv x3 n)

/-- A row of scales at 128 columns, as loaded. -/
def effv (x3 : Vec F S8x16x512 .i8) (x4 : Vec F S8x512 .i16) (n : Fin 8) (ob : Fin 4) (s : Fin 16) : Vec F S1x1x128 .bf16 :=
  fun j => effB x3 x4 n (ix3 0 s ⟨128 * ob.val + (j 2).val, by have h : (j 2).val < 128 := (j 2).isLt; omega⟩)

/-- Every fourth row of a transposed block of code words, as loaded. -/
def ltv (x1 : Vec F S512x8x128 .i8) (g : Fin 2) (ob i : Fin 4) : Vec F S1x1x32x128 .i32 :=
  fun j => ltPay g (qlv x1 ob) (ix4 0 0 ⟨4 * (j 2).val + i.val, by have h : (j 2).val < 32 := (j 2).isLt; omega⟩ (j 3))

/-- The block of the activations a super block is contracted with. -/
def xv (x0 : Vec F S256x18432 .bf16) (c : Fin 9) (n : Fin 8) : Vec F S256x256 .bf16 :=
  fun j => x0 (ix2 (j 0) ⟨2048 * c.val + 256 * n.val + (j 1).val, by have h : (j 1).val < 256 := (j 1).isLt; omega⟩)

/-- The activations of a chunk's super block, read from the whole buffer. -/
theorem read_xv (arg2 : Memref sig .tc .vmem S256x18432 .bf16) (harg2 : arg2.IsWhole) (x0 : Vec F S256x18432 .bf16)
    (off : Fin 2 → Nat) (inb) (c : Fin 9) (n : Fin 8) (h0 : off 0 = 0) (h1 : off 1 = 2048 * c.val + 256 * n.val) :
    View.readAt (Elt F) arg2.view (Rect.unit (s := S256x18432) off S256x256.size inb).toLoadRect (harg2.unread x0) = xv x0 c n := by
  rw [View.readAt_eq_ld, harg2.read_unread]
  funext j
  refine View.ld_unit_apply_of _ _ _ _ j _ fun a => ?_
  match a with
  | ⟨0, _⟩ => show _ = off 0 + (j 0).val; rw [h0, Nat.zero_add]; rfl
  | ⟨1, _⟩ => show _ = off 1 + (j 1).val; rw [h1]; rfl

/-- The low codes of a column group, read from the whole buffer. -/
theorem read_qlv (arg3 : Memref sig .tc .vmem S512x8x128 .i8) (harg3 : arg3.IsWhole) (x1 : Vec F S512x8x128 .i8) (ob : Fin 4) :
    View.readAt (Elt F) arg3.view (qlRd ob).toLoadRect (harg3.unread x1) = qlv x1 ob := by
  rw [View.readAt_eq_ld, harg3.read_unread]
  funext j
  refine View.ld_unit_apply_of _ _ _ _ j _ fun a => ?_
  match a with
  | ⟨0, _⟩ => rfl
  | ⟨1, _⟩ => exact (Nat.zero_add _).symm
  | ⟨2, _⟩ => exact (Nat.zero_add _).symm

/-- The high codes of a super block and column group, read from the whole buffer. -/
theorem read_qhv (arg4 : Memref sig .tc .vmem S8x64x512 .i8) (harg4 : arg4.IsWhole) (x2 : Vec F S8x64x512 .i8) (n : Fin 8) (ob : Fin 4) :
    View.readAt (Elt F) arg4.view (qhRd n ob).toLoadRect (harg4.unread x2) = qhv x2 n ob := by
  rw [View.readAt_eq_ld, harg4.read_unread]
  funext j
  refine View.ld_unit_apply_of _ _ _ _ j _ fun a => ?_
  match a with
  | ⟨0, _⟩ => show _ = n.val + (j 0).val; have h : (j 0).val < 1 := (j 0).isLt; show n.val = _; omega
  | ⟨1, _⟩ => exact (Nat.zero_add _).symm
  | ⟨2, _⟩ => rfl

/-- The scales of a super block, read from the whole buffer. -/
theorem read_scv (arg5 : Memref sig .tc .vmem S8x16x512 .i8) (harg5 : arg5.IsWhole) (x3 : Vec F S8x16x512 .i8) (n : Fin 8) :
    View.readAt (Elt F) arg5.view (effSt n).toLoadRect (harg5.unread x3) = scv x3 n := by
  rw [View.readAt_eq_ld, harg5.read_unread]
  funext j
  refine View.ld_unit_apply_of _ _ _ _ j _ fun a => ?_
  match a with
  | ⟨0, _⟩ => show _ = n.val + (j 0).val; have h : (j 0).val < 1 := (j 0).isLt; show n.val = _; omega
  | ⟨1, _⟩ => exact (Nat.zero_add _).symm
  | ⟨2, _⟩ => exact (Nat.zero_add _).symm

/-- The halves, read from the whole buffer. -/
theorem read_x4 (arg6 : Memref sig .tc .vmem S8x512 .i16) (harg6 : arg6.IsWhole) (x4 : Vec F S8x512 .i16) :
    View.readAt (Elt F) arg6.view (Rect.unit (s := S8x512) ![0, 0] S8x512.size inb_S8x512_S8x512_0_0).toLoadRect (harg6.unread x4) = x4 := by
  rw [View.readAt_eq_ld, harg6.read_unread]
  exact View.ld_unit_zero (funext fun a => by fin_cases a <;> rfl) _ _

/-- A strided load of the block of code words stored last. -/
theorem read_ltv (v : View sig .tc .vmem S2x4x128x128 .i32) (L : List (View.Piece (Elt F) S2x4x128x128 .i32)) (x1 : Vec F S512x8x128 .i8)
    (g : Fin 2) (ob i : Fin 4) : v.readCov (⟨ltSt g ob, ltPay g (qlv x1 ob)⟩ :: L) (ltRd g ob i) = ltv x1 g ob i := by
  rw [View.readCov_eq_canon']
  funext j
  have h0 : (j 0).val < 1 := (j 0).isLt
  have h1 : (j 1).val < 1 := (j 1).isLt
  have h2 : (j 2).val < 32 := (j 2).isLt
  have e : (ltRd g ob i).idx j = (ltSt g ob).emb (ix4 0 0 ⟨4 * (j 2).val + i.val, by omega⟩ (j 3)) := by
    funext a
    apply Fin.ext
    refine Eq.trans ?_ (Rect.emb_apply _ _ _).symm
    match a with
    | ⟨0, _⟩ => show g.val + 1 * (j 0).val = g.val + 1 * 0; omega
    | ⟨1, _⟩ => show ob.val + 1 * (j 1).val = ob.val + 1 * 0; omega
    | ⟨2, _⟩ => show i.val + 4 * (j 2).val = 0 + 1 * (4 * (j 2).val + i.val); omega
    | ⟨3, _⟩ => rfl
  rw [e]
  exact View.canon_cons_emb _ _ _ _

/-- The stores of the scales of the eight super blocks, last first. -/
def effL (x3 : Vec F S8x16x512 .i8) (x4 : Vec F S8x512 .i16) : List (View.Piece (Elt F) S8x16x512 .bf16) :=
  List.ofFn fun k : Fin 8 => (⟨effSt k.rev, effB x3 x4 k.rev⟩ : View.Piece (Elt F) S8x16x512 .bf16)

/-- Eight blocks stored one a super block, read at an index. -/
theorem canon_eff (P : Fin 8 → Vec F S1x16x512 .bf16) (n : Fin 8) (s : Fin 16) (o : Fin 512) :
    View.canon (List.ofFn fun k : Fin 8 => (⟨effSt k.rev, P k.rev⟩ : View.Piece (Elt F) S8x16x512 .bf16)) (ix3 n s o) = P n (ix3 0 s o) := by
  refine View.canon_ofFn_eq_of_forall (fun k : Fin 8 => effSt k.rev) (fun k => P k.rev) _ _ ⟨n.rev, ?_⟩ fun k x hx => ?_
  · rw [Fin.rev_rev]
    refine Rect.mem_set_unit.mpr fun a => ?_
    match a with
    | ⟨0, _⟩ => exact ⟨le_refl _, Nat.lt_succ_self _⟩
    | ⟨1, _⟩ => exact ⟨Nat.zero_le _, by show s.val < 0 + 16; omega⟩
    | ⟨2, _⟩ => exact ⟨Nat.zero_le _, by show o.val < 0 + 512; omega⟩
  · have x0 : (x 0).val < 1 := (x 0).isLt
    have hx0 : k.rev.val + 1 * (x 0).val = n.val := congrArg (fun y : S8x16x512.Idx => (y 0).val) hx
    have hx1 : 0 + 1 * (x 1).val = s.val := congrArg (fun y : S8x16x512.Idx => (y 1).val) hx
    have hx2 : 0 + 1 * (x 2).val = o.val := congrArg (fun y : S8x16x512.Idx => (y 2).val) hx
    have hk : k.rev = n := Fin.ext (by omega)
    have hxi : x = (ix3 0 s o : S1x16x512.Idx) := by
      funext a
      apply Fin.ext
      match a with
      | ⟨0, _⟩ => show (x 0).val = 0; omega
      | ⟨1, _⟩ => show (x 1).val = s.val; omega
      | ⟨2, _⟩ => show (x 2).val = o.val; omega
    rw [hxi, hk]

/-- A load of a row of scales of the scales stored. -/
theorem read_effv (v : View sig .tc .vmem S8x16x512 .bf16) (x3 : Vec F S8x16x512 .i8) (x4 : Vec F S8x512 .i16)
    (n : Fin 8) (ob : Fin 4) (s : Fin 16) : v.readCov (effL x3 x4) (effRd n s ob).toLoadRect = effv x3 x4 n ob s := by
  rw [View.readCov_eq_canon']
  funext j
  have h0 : (j 0).val < 1 := (j 0).isLt
  have h1 : (j 1).val < 1 := (j 1).isLt
  have h2 : (j 2).val < 128 := (j 2).isLt
  have e : (effRd n s ob).toLoadRect.idx j = ix3 n s ⟨128 * ob.val + (j 2).val, by omega⟩ := by
    funext a
    apply Fin.ext
    match a with
    | ⟨0, _⟩ => show n.val + 1 * (j 0).val = n.val; omega
    | ⟨1, _⟩ => show s.val + 1 * (j 1).val = s.val; omega
    | ⟨2, _⟩ => show 128 * ob.val + 1 * (j 2).val = 128 * ob.val + (j 2).val; omega
  rw [e]
  exact canon_eff (effB x3 x4) n s _

end Cert.KernelIdeal.Gen
-- ==== Proof.Value.Step.lean ====
module

public import proofs.«01_k».proof.Proof.Value.Loads

@[expose] public section

set_option maxRecDepth 16384

noncomputable section

namespace Cert.KernelIdeal.Gen

open Idealize.ShloMosaic Idealize.ShloMosaic.TcCoe Idealize.ShloMosaic.Tactic

variable {F : FTy → Type} [FloatOps F]

/-! # One grid point: eight accumulation steps -/

/-- Byte `j` of the four row words. -/
def ljOf (j : Fin 4) (r : Fin 4 → Vec F S1x1x32x128 .i32) : IVec S32x128 32 :=
  match j with
  | 0 => lj0 (r 0) (r 1) (r 2) (r 3)
  | 1 => lj1 (r 0) (r 1) (r 2) (r 3)
  | 2 => lj2 (r 0) (r 1) (r 2) (r 3)
  | 3 => lj3 (r 0) (r 1) (r 2) (r 3)

/-- The super block of group `g` and byte `j`. -/
def nOf (g : Fin 2) (j : Fin 4) : Fin 8 := ⟨4 * g.val + j.val, by omega⟩

/-- 128 columns of a dequantized super block, from the blocks at the point. -/
def wtOb (x1 : Vec F S512x8x128 .i8) (x2 : Vec F S8x64x512 .i8) (x3 : Vec F S8x16x512 .i8) (x4 : Vec F S8x512 .i16)
    (g : Fin 2) (j ob : Fin 4) : FVec F S256x128 .bf16 :=
  wob (ljOf j (ltv (F := F) x1 g ob)) (qhv x2 (nOf g j) ob) (effv x3 x4 (nOf g j) ob)

/-- One accumulation step: the activations of a super block times its dequantized weights. -/
def stepV (x0 : Vec F S256x18432 .bf16) (x1 : Vec F S512x8x128 .i8) (x2 : Vec F S8x64x512 .i8) (x3 : Vec F S8x16x512 .i8)
    (x4 : Vec F S8x512 .i16) (c : Fin 9) (g : Fin 2) (j : Fin 4) (acc : Vec F S256x512 .f32) : FVec F S256x512 .f32 :=
  k0_pay1 (wt (wtOb x1 x2 x3 x4 g j)) acc (xv x0 c (nOf g j))

/-- A grid point's eight steps. -/
def pointV (x0 : Vec F S256x18432 .bf16) (x1 : Vec F S512x8x128 .i8) (x2 : Vec F S8x64x512 .i8) (x3 : Vec F S8x16x512 .i8)
    (x4 : Vec F S8x512 .i16) (c : Fin 9) (acc : Vec F S256x512 .f32) : FVec F S256x512 .f32 :=
  stepV x0 x1 x2 x3 x4 c 1 3 (stepV x0 x1 x2 x3 x4 c 1 2 (stepV x0 x1 x2 x3 x4 c 1 1 (stepV x0 x1 x2 x3 x4 c 1 0
    (stepV x0 x1 x2 x3 x4 c 0 3 (stepV x0 x1 x2 x3 x4 c 0 2 (stepV x0 x1 x2 x3 x4 c 0 1 (stepV x0 x1 x2 x3 x4 c 0 0 acc)))))))

/-- The chunk of super blocks a grid point works on. -/
def chunk (i : grid0.Coords) : Fin 9 := ⟨(i 1).val, (i 1).isLt⟩

/-- Where the body loads the activations of super block `n`. -/
theorem off1_eq (i : grid0.Coords) (n : Fin 8) :
    k0_off1 i (BitVec.ofNat 32 (256 * n.val)) 1 = 2048 * (chunk i).val + 256 * n.val := by
  have h : (i 1).val < 9 := (i 1).isLt
  show (Scalar.indexCast (Scalar.addi (Scalar.muli (BitVec.ofNat 32 (i 1).val) 2048#32) (BitVec.ofNat 32 (256 * n.val)))).toNat = 2048 * (i 1).val + 256 * n.val
  show (BitVec.ofNat 32 (i 1).val * 2048#32 + BitVec.ofNat 32 (256 * n.val)).toNat = _
  rw [BitVec.toNat_add, BitVec.toNat_mul, BitVec.toNat_ofNat, BitVec.toNat_ofNat, BitVec.toNat_ofNat]
  omega

section Raw

variable (arg2 : Memref sig .tc .vmem S256x18432 .bf16) (harg2 : arg2.IsWhole)
  (arg3 : Memref sig .tc .vmem S512x8x128 .i8) (harg3 : arg3.IsWhole) (arg4 : Memref sig .tc .vmem S8x64x512 .i8) (harg4 : arg4.IsWhole)
  (arg5 : Memref sig .tc .vmem S8x16x512 .i8) (harg5 : arg5.IsWhole) (arg6 : Memref sig .tc .vmem S8x512 .i16) (harg6 : arg6.IsWhole)
  (arg9 : Memref sig .tc .vmem S2x4x128x128 .i32) (arg10 : Memref sig .tc .vmem S8x16x512 .bf16)
  (x0 : Vec F S256x18432 .bf16) (x1 : Vec F S512x8x128 .i8) (x2 : Vec F S8x64x512 .i8) (x3 : Vec F S8x16x512 .i8) (x4 : Vec F S8x512 .i16)

/-- The scales stored, from the loads. -/
def effLRaw : List (View.Piece (Elt F) S8x16x512 .bf16) :=
  List.ofFn fun k : Fin 8 => (⟨effSt k.rev, effPay ⟨k.rev.val / 2, by omega⟩
    (d4 (View.readAt (Elt F) arg6.view (Rect.unit (s := S8x512) ![0, 0] S8x512.size inb_S8x512_S8x512_0_0).toLoadRect (harg6.unread x4)) ⟨k.rev.val % 2, by omega⟩)
    (View.readAt (Elt F) arg5.view (effSt k.rev).toLoadRect (harg5.unread x3))⟩ : View.Piece (Elt F) S8x16x512 .bf16)

/-- The scales as stored by the kernel are the scales as a function of the blocks. -/
theorem effLRaw_eq : effLRaw arg5 harg5 arg6 harg6 x3 x4 = effL x3 x4 := by
  unfold effLRaw effL effB
  rw [read_x4 arg6 harg6 x4]
  simp only [read_scv]

/-- 128 columns of a dequantized super block, from the loads. -/
def wobRaw (L9 : List (View.Piece (Elt F) S2x4x128x128 .i32)) (g : Fin 2) (j ob : Fin 4) : FVec F S256x128 .bf16 :=
  wob (ljOf j fun i => arg9.view.readCov L9 (ltRd g ob i))
    (View.readAt (Elt F) arg4.view (qhRd (nOf g j) ob).toLoadRect (harg4.unread x2))
    (fun s => arg10.view.readCov (effLRaw arg5 harg5 arg6 harg6 x3 x4) (effRd (nOf g j) s ob).toLoadRect)

/-- The weights as built by the kernel are the weights as a function of the blocks. -/
theorem wobRaw_eq (L : List (View.Piece (Elt F) S2x4x128x128 .i32)) (g : Fin 2) (j ob : Fin 4) :
    wobRaw arg4 harg4 arg5 harg5 arg6 harg6 arg9 arg10 x2 x3 x4
      (⟨ltSt g ob, ltPay g (View.readAt (Elt F) arg3.view (qlRd ob).toLoadRect (harg3.unread x1))⟩ :: L) g j ob
      = wtOb x1 x2 x3 x4 g j ob := by
  unfold wobRaw wtOb
  rw [read_qlv, effLRaw_eq, read_qhv]
  simp only [read_ltv, read_effv]

/-- One step of the body as its loads and stores give it is the step on the blocks. -/
theorem step_eq (L : Fin 4 → List (View.Piece (Elt F) S2x4x128x128 .i32)) (i : grid0.Coords) (g : Fin 2) (j : Fin 4)
    (inb) (acc : Vec F S256x512 .f32) :
    k0_pay1 (wt fun ob => wobRaw arg4 harg4 arg5 harg5 arg6 harg6 arg9 arg10 x2 x3 x4
      (⟨ltSt g ob, ltPay g (View.readAt (Elt F) arg3.view (qlRd ob).toLoadRect (harg3.unread x1))⟩ :: L ob) g j ob) acc
      (View.readAt (Elt F) arg2.view (Rect.unit (s := S256x18432) (k0_off1 i (BitVec.ofNat 32 (256 * (nOf g j).val))) S256x256.size inb).toLoadRect (harg2.unread x0))
      = stepV x0 x1 x2 x3 x4 (chunk i) g j acc := by
  unfold stepV
  rw [read_xv arg2 harg2 x0 _ inb (chunk i) (nOf g j) rfl (off1_eq i _)]
  exact congrArg (fun w => k0_pay1 (wt w) acc (xv x0 (chunk i) (nOf g j)))
    (funext fun ob => wobRaw_eq arg3 harg3 arg4 harg4 arg5 harg5 arg6 harg6 arg9 arg10 x1 x2 x3 x4 (L ob) g j ob)

end Raw

end Cert.KernelIdeal.Gen
-- ==== Proof.Value.Bits.lean ====
/-
  The bit manipulation of the dequantizer, word by word: bytes of words, the two packings that gather one byte of
  four rows into a word, and the byte that holds four times a code less 128.
-/
module

public import Idealize.ShloMosaic.PureOps.Ideal
public import Idealize.ShloMosaic.Lib.Pointwise
public import Idealize.ShloMosaic.Lib.BitcastFour

@[expose] public section

set_option maxRecDepth 16384

noncomputable section

namespace Cert.Val

open Idealize.ShloMosaic

/-- Byte `i` of a word. -/
def byte (x : BitVec 32) (i : ℕ) : BitVec 8 := x.extractLsb' (8 * i) 8

/-- A byte of a word, bit by bit. -/
theorem byte_bit (x : BitVec 32) (i b : ℕ) (hb : b < 8) : (byte x i).getLsbD b = x.getLsbD (8 * i + b) := by
  simp [byte, BitVec.getLsbD_extractLsb', hb]

/-- Bytes equal in every bit are equal. -/
theorem byte_ext (x : BitVec 32) (i : ℕ) (y : BitVec 8) (h : ∀ b < 8, x.getLsbD (8 * i + b) = y.getLsbD b) : byte x i = y := by
  apply BitVec.eq_of_getLsbD_eq
  intro b hb
  rw [byte_bit x i b hb, h b hb]

/-- The low bits `L` and the high bits `H` of a code as the kernel lays them in a byte: quarter `f` of the super block. -/
def codeByte (f : Fin 4) (L H : BitVec 8) : BitVec 8 :=
  match f with
  | 0 => ((L <<< 2) &&& 0x3C#8) ||| (((H ^^^ 0xAA#8) <<< 6) &&& 0xC0#8)
  | 1 => ((L <<< 2) &&& 0x3C#8) ||| (((H ^^^ 0xAA#8) <<< 4) &&& 0xC0#8)
  | 2 => ((L >>> 2) &&& 0x3C#8) ||| (((H ^^^ 0xAA#8) <<< 2) &&& 0xC0#8)
  | 3 => ((L >>> 2) &&& 0x3C#8) ||| ((H ^^^ 0xAA#8) &&& 0xC0#8)

/-- The code of an element, before 32 is taken off: its low four bits from `L`, its high two from `H`. -/
def codeNat (f : Fin 4) (L H : BitVec 8) : ℕ :=
  (if f.val < 2 then L.toNat % 16 else L.toNat / 16) + 16 * (H.toNat / 4 ^ f.val % 4)

/-- Every quarter's low field of a byte. -/
theorem lowField : ∀ L : Fin 256, ((BitVec.ofNat 8 L.val <<< 2) &&& 0x3C#8) = BitVec.ofNat 8 (4 * (L.val % 16))
    ∧ ((BitVec.ofNat 8 L.val >>> 2) &&& 0x3C#8) = BitVec.ofNat 8 (4 * (L.val / 16)) := by
  decide +kernel

/-- Every quarter's high field of a byte. -/
theorem highField : ∀ H : Fin 256,
    (((BitVec.ofNat 8 H.val ^^^ 0xAA#8) <<< 6) &&& 0xC0#8) = BitVec.ofNat 8 (64 * ((H.val % 4 + 2) % 4))
    ∧ (((BitVec.ofNat 8 H.val ^^^ 0xAA#8) <<< 4) &&& 0xC0#8) = BitVec.ofNat 8 (64 * ((H.val / 4 % 4 + 2) % 4))
    ∧ (((BitVec.ofNat 8 H.val ^^^ 0xAA#8) <<< 2) &&& 0xC0#8) = BitVec.ofNat 8 (64 * ((H.val / 16 % 4 + 2) % 4))
    ∧ ((BitVec.ofNat 8 H.val ^^^ 0xAA#8) &&& 0xC0#8) = BitVec.ofNat 8 (64 * ((H.val / 64 % 4 + 2) % 4)) := by
  decide +kernel

/-- The two fields of a byte put together, as a signed number. -/
theorem fieldsInt : ∀ (l : Fin 16) (h : Fin 4),
    (BitVec.ofNat 8 (4 * l.val) ||| BitVec.ofNat 8 (64 * ((h.val + 2) % 4))).toInt = 4 * (((l.val + 16 * h.val : ℕ) : ℤ) - 32) := by
  decide +kernel

/-- The byte the kernel makes of a code is four times the code less 32. -/
theorem codeByte_toInt (f : Fin 4) (L H : BitVec 8) : (codeByte f L H).toInt = 4 * ((codeNat f L H : ℤ) - 32) := by
  have hL : L = BitVec.ofNat 8 L.toNat := by simp
  have hH : H = BitVec.ofNat 8 H.toNat := by simp
  have lf := lowField ⟨L.toNat, L.isLt⟩
  have hf := highField ⟨H.toNat, H.isLt⟩
  dsimp only at lf hf
  rw [← hL] at lf
  rw [← hH] at hf
  have g0 (l h : ℕ) (hl : l < 16) (hh : h < 4) := fieldsInt ⟨l, hl⟩ ⟨h, hh⟩
  have l1 : L.toNat % 16 < 16 := by omega
  have l2 : L.toNat / 16 < 16 := by have := L.isLt; omega
  match f with
  | 0 => exact (congrArg BitVec.toInt (congrArg₂ (· ||| ·) lf.1 hf.1)).trans ((g0 _ _ l1 (by omega)).trans (by simp [codeNat]))
  | 1 => exact (congrArg BitVec.toInt (congrArg₂ (· ||| ·) lf.1 hf.2.1)).trans ((g0 _ _ l1 (by omega)).trans (by simp [codeNat]))
  | 2 => exact (congrArg BitVec.toInt (congrArg₂ (· ||| ·) lf.2 hf.2.2.1)).trans ((g0 _ _ l2 (by omega)).trans (by simp [codeNat]))
  | 3 => exact (congrArg BitVec.toInt (congrArg₂ (· ||| ·) lf.2 hf.2.2.2)).trans ((g0 _ _ l2 (by omega)).trans (by simp [codeNat]))

/-- A word repeating a byte four times, bit by bit: the masks of the dequantizer. -/
theorem masks : ∀ (i : Fin 4) (b : Fin 8),
    (1010580540#32).getLsbD (8 * i.val + b.val) = (0x3C#8).getLsbD b.val
    ∧ (3233857728#32).getLsbD (8 * i.val + b.val) = (0xC0#8).getLsbD b.val
    ∧ (2863311530#32).getLsbD (8 * i.val + b.val) = (0xAA#8).getLsbD b.val := by
  decide +kernel

/-- The bits the two masks keep. -/
theorem mask_bits : ∀ b : Fin 8, (0x3C#8).getLsbD b.val = decide (2 ≤ b.val ∧ b.val < 6) ∧ (0xC0#8).getLsbD b.val = decide (6 ≤ b.val) := by
  decide +kernel

/-- The code words of a quarter, from the words of low and high bits. -/
def codeWord (f : Fin 4) (l q : BitVec 32) : BitVec 32 :=
  match f with
  | 0 => ((l <<< 2) &&& 1010580540#32) ||| ((q <<< 6) &&& 3233857728#32)
  | 1 => ((l <<< 2) &&& 1010580540#32) ||| ((q <<< 4) &&& 3233857728#32)
  | 2 => ((l >>> 2) &&& 1010580540#32) ||| ((q <<< 2) &&& 3233857728#32)
  | 3 => ((l >>> 2) &&& 1010580540#32) ||| (q &&& 3233857728#32)

/-- Each byte of a code word is the code byte of that byte of its two words. -/
theorem codeWord_byte (f : Fin 4) (l q : BitVec 32) (i : ℕ) (hi : i < 4) :
    byte (codeWord f l (q ^^^ 2863311530#32)) i = codeByte f (byte l i) (byte q i) := by
  apply byte_ext
  intro b hb
  obtain ⟨m1, m2, m3⟩ := masks ⟨i, hi⟩ ⟨b, hb⟩
  obtain ⟨k1, k2⟩ := mask_bits ⟨b, hb⟩
  dsimp only at m1 m2 m3 k1 k2
  have m4 (s : ℕ) (hs : s ≤ b) := (masks ⟨i, hi⟩ ⟨b - s, by omega⟩).2.2
  dsimp only at m4
  have bl (x : BitVec 32) (c : ℕ) (hc : c < 8) := byte_bit x i c hc
  have sub (s : ℕ) (hs : s ≤ b) : 8 * i + b - s = 8 * i + (b - s) := by omega
  match f with
  | 0 | 1 =>
    simp only [codeWord, codeByte, BitVec.getLsbD_or, BitVec.getLsbD_and, BitVec.getLsbD_shiftLeft, BitVec.getLsbD_xor, m1, m2, k1, k2]
    congr 1
    · by_cases h : 2 ≤ b ∧ b < 6
      · rw [sub 2 h.1, ← bl l (b - 2) (by omega)]
        have e1 : 8 * i + b < 32 := by omega
        have e2 : ¬ 8 * i + b < 2 := by omega
        have e3 : ¬ b < 2 := by omega
        simp [h, hb, e1, e2, e3]
      · simp [h]
    · by_cases h : 6 ≤ b
      · have e1 : 8 * i + b < 32 := by omega
        have e2 : ¬ 8 * i + b < 6 := by omega
        have e3 : ¬ b < 6 := by omega
        have e4 : ¬ 8 * i + b < 4 := by omega
        have e5 : ¬ b < 4 := by omega
        simp only [sub 6 (by omega), sub 4 (by omega), m4 6 (by omega), m4 4 (by omega), bl q (b - 6) (by omega), bl q (b - 4) (by omega)]
        simp [hb, e1, e2, e3, e4, e5]
      · simp [h]
  | 2 | 3 =>
    simp only [codeWord, codeByte, BitVec.getLsbD_or, BitVec.getLsbD_and, BitVec.getLsbD_shiftLeft, BitVec.getLsbD_ushiftRight, BitVec.getLsbD_xor, m1, m2, m3, k1, k2]
    congr 1
    · by_cases h : 2 ≤ b ∧ b < 6
      · rw [show 2 + (8 * i + b) = 8 * i + (2 + b) by omega, ← bl l (2 + b) (by omega)]
      · simp [h]
    · by_cases h : 6 ≤ b
      · have e1 : 8 * i + b < 32 := by omega
        have e2 : ¬ 8 * i + b < 2 := by omega
        have e3 : ¬ b < 2 := by omega
        simp only [sub 2 (by omega), m4 2 (by omega), bl q (b - 2) (by omega), bl q b hb]
        try simp [hb, e1, e2, e3]
      · simp [h]

/-- The even bytes of `a` between the even bytes of `b`. -/
def pack8w (a b : BitVec 32) : BitVec 32 := (a &&& 16711935#32) ||| ((b &&& 16711935#32) <<< 8)

/-- Two words' low halves in one word. -/
def pack16w (x y : BitVec 32) : BitVec 32 := y.setWidth 16 ++ x.setWidth 16

/-- The word holding byte `j` of each of four words. -/
def gather (j : Fin 4) (r0 r1 r2 r3 : BitVec 32) : BitVec 32 :=
  match j with
  | 0 => pack16w (pack8w r0 r1) (pack8w r2 r3)
  | 1 => pack16w (pack8w (r0 >>> 8) (r1 >>> 8)) (pack8w (r2 >>> 8) (r3 >>> 8))
  | 2 => pack16w (pack8w r0 r1 >>> 16) (pack8w r2 r3 >>> 16)
  | 3 => pack16w (pack8w (r0 >>> 8) (r1 >>> 8) >>> 16) (pack8w (r2 >>> 8) (r3 >>> 8) >>> 16)

/-- Bits of the mask of the even bytes. -/
theorem even_mask : ∀ b : Fin 32, (16711935#32).getLsbD b.val = decide (b.val / 8 % 2 = 0) := by
  decide +kernel

/-- A bit of the low or high half of the packed pair. -/
theorem pack8w_bit (a b : BitVec 32) (p : ℕ) (hp : p < 32) :
    (pack8w a b).getLsbD p = if p / 8 % 2 = 0 then a.getLsbD p else b.getLsbD (p - 8) := by
  have m := even_mask ⟨p, hp⟩
  have m' := even_mask ⟨p - 8, by omega⟩
  dsimp only at m m'
  simp only [pack8w, BitVec.getLsbD_or, BitVec.getLsbD_and, BitVec.getLsbD_shiftLeft, m, m']
  by_cases h : p / 8 % 2 = 0
  · rw [if_pos h]
    by_cases g : p < 8
    · simp [h, g]
    · have : ¬ ((p - 8) / 8 % 2 = 0) := by omega
      simp [h, g, this]
  · rw [if_neg h]
    have g : ¬ p < 8 := by omega
    have : (p - 8) / 8 % 2 = 0 := by omega
    simp [h, g, this, hp]

/-- A bit of the two low halves. -/
theorem pack16w_bit (x y : BitVec 32) (p : ℕ) (hp : p < 32) :
    (pack16w x y).getLsbD p = if p < 16 then x.getLsbD p else y.getLsbD (p - 16) := by
  rw [pack16w, BitVec.getLsbD_append]
  by_cases h : p < 16
  · simp [h]
  · simp [h]; omega

/-- Byte `i` of the gathered word is byte `j` of the word `i`. -/
theorem gather_byte (j : Fin 4) (r : Fin 4 → BitVec 32) (i : Fin 4) :
    byte (gather j (r 0) (r 1) (r 2) (r 3)) i.val = byte (r i) j.val := by
  apply byte_ext
  intro b hb
  rw [byte_bit _ _ _ hb]
  have key (i j : Fin 4) : (gather j (r 0) (r 1) (r 2) (r 3)).getLsbD (8 * i.val + b) = (r i).getLsbD (8 * j.val + b) := by
    have v0 : ((0 : Fin 4) : ℕ) = 0 := rfl
    have v1 : ((1 : Fin 4) : ℕ) = 1 := rfl
    have v2 : ((2 : Fin 4) : ℕ) = 2 := rfl
    have v3 : ((3 : Fin 4) : ℕ) = 3 := rfl
    match j, i with
    | 0, 0 | 0, 1 | 0, 2 | 0, 3 | 1, 0 | 1, 1 | 1, 2 | 1, 3 | 2, 0 | 2, 1 | 2, 2 | 2, 3 | 3, 0 | 3, 1 | 3, 2 | 3, 3 =>
      simp only [gather, v0, v1, v2, v3]
      rw [pack16w_bit _ _ _ (by omega)]
      first
      | rw [if_pos (by omega)]
      | rw [if_neg (by omega)]
      try rw [BitVec.getLsbD_ushiftRight]
      rw [pack8w_bit _ _ _ (by omega)]
      first
      | rw [if_pos (by omega)]
      | rw [if_neg (by omega)]
      try rw [BitVec.getLsbD_ushiftRight]
      try exact congrArg _ (by omega)
  exact key i j

end Cert.Val
-- ==== Proof.Value.Half.lean ====
/-
  The IEEE half of sixteen bits, as an extended real, and the two programs' ways of computing it: the kernel moves the
  exponent and the mantissa into a 32-bit pattern and reinterprets it, the reference multiplies the significand by a
  power of two. Both are the same extended real at every one of the 65,536 patterns, infinities and NaNs included.
-/
module

public import Idealize.ShloMosaic.PureOps.Ideal
public import Idealize.ShloMosaic.Lib.ValueIdxCore

@[expose] public section

set_option maxRecDepth 16384

noncomputable section

namespace Cert.Val

open Idealize.ShloMosaic

/-- The magnitude of the half with exponent field `E` and mantissa field `M`: an infinity or a NaN (`⊥`) at 31, a
    subnormal at 0, a normal number otherwise. -/
def mag (E M : ℕ) : EReal :=
  if E = 31 then (if M = 0 then ⊤ else ⊥)
  else if E = 0 then (((M : ℝ) * (2 : ℝ) ^ (-24 : ℤ) : ℝ) : EReal)
  else ((((1024 + M : ℕ) : ℝ) * (2 : ℝ) ^ ((E : ℤ) - 25) : ℝ) : EReal)

/-- The value of the half of sixteen bits: its magnitude, negated when the sign bit is set. -/
def half (d : BitVec 16) : EReal :=
  if 32768 ≤ d.toNat then -mag (d.toNat / 1024 % 32) (d.toNat % 1024) else mag (d.toNat / 1024 % 32) (d.toNat % 1024)

/-- The kernel's rebiased pattern of the half in the low sixteen bits of `h`. -/
def kbits (h : BitVec 32) : BitVec 32 :=
  if h &&& 31744#32 = 31744#32 then (((h &&& 32767#32) <<< 13) + 939524096#32) + 939524096#32
  else ((h &&& 32767#32) <<< 13) + 939524096#32

/-- The kernel's decoding of the half in the low sixteen bits of `h`, as it is printed. -/
def kdec (h : BitVec 32) : EReal :=
  if h &&& 32768#32 ≠ 0#32 then
    Ideal.ofBits .f32 0#32 - (if h &&& 31744#32 = 0#32 then Ideal.ofBits .f32 (kbits h + 8388608#32) - Ideal.ofBits .f32 0x38800000#32 else Ideal.ofBits .f32 (kbits h))
  else
    (if h &&& 31744#32 = 0#32 then Ideal.ofBits .f32 (kbits h + 8388608#32) - Ideal.ofBits .f32 0x38800000#32 else Ideal.ofBits .f32 (kbits h))

/-- The reference's decoding of the half `d`. -/
def rdec (d : BitVec 16) : EReal :=
  let h := d.signExtend 32
  let e := (h.sshiftRight 10) &&& 31#32
  let f := h &&& 1023#32
  let r := if e = 31#32 then (if f = 0#32 then Ideal.ofBits .f32 0x7F800000#32 else Ideal.ofBits .f32 0x7FC00000#32)
    else (((if e = 0#32 then f else f + 1024#32).toInt : ℝ) : EReal)
      * Ideal.ofBits .f32 (((if (1#32).slt e then e else 1#32) + 102#32) <<< 23)
  if h.slt 0#32 then -r else r

/-- Bits 10 to 14 of a number. -/
theorem nat_and_exp (n : ℕ) : n &&& 31744 = 1024 * (n / 1024 % 32) := by
  have h : n &&& 31744 = ((n >>> 10) &&& 31) <<< 10 := by
    apply Nat.eq_of_testBit_eq
    intro i
    have e : (31744 : ℕ) = 31 <<< 10 := rfl
    rw [e]
    simp only [Nat.testBit_and, Nat.testBit_shiftLeft, Nat.testBit_shiftRight]
    by_cases hi : 10 ≤ i
    · simp [hi]
    · simp [hi]
  rw [h, Nat.shiftLeft_eq, Nat.shiftRight_eq_div_pow]
  have := Nat.and_two_pow_sub_one_eq_mod (n / 2 ^ 10) 5
  norm_num at this ⊢
  omega

/-- Bit 15 of a number. -/
theorem nat_and_sgn (n : ℕ) : n &&& 32768 = 32768 * (n / 32768 % 2) := by
  have h : n &&& 32768 = ((n >>> 15) &&& 1) <<< 15 := by
    apply Nat.eq_of_testBit_eq
    intro i
    have e : (32768 : ℕ) = 1 <<< 15 := rfl
    rw [e]
    simp only [Nat.testBit_and, Nat.testBit_shiftLeft, Nat.testBit_shiftRight]
    by_cases hi : 15 ≤ i
    · simp [hi]
    · simp [hi]
  rw [h, Nat.shiftLeft_eq, Nat.shiftRight_eq_div_pow, Nat.and_one_is_mod]
  omega

/-- The low fifteen bits of a number. -/
theorem nat_and_mag (n : ℕ) : n &&& 32767 = n % 32768 := Nat.and_two_pow_sub_one_eq_mod n 15

/-- The low ten bits of a number. -/
theorem nat_and_man (n : ℕ) : n &&& 1023 = n % 1024 := Nat.and_two_pow_sub_one_eq_mod n 10

/-- The low five bits of a number. -/
theorem nat_and_31 (n : ℕ) : n &&& 31 = n % 32 := Nat.and_two_pow_sub_one_eq_mod n 5

/-- What a 32-bit pattern with a clear sign, the exponent field `ex` and the fraction field `fr` denotes. -/
theorem ofBits_fields (b : BitVec 32) (ex fr : ℕ) (hb : b.toNat = ex * 8388608 + fr) (hex : ex < 256) (hfr : fr < 8388608)
    (h0 : ex ≠ 0) :
    Ideal.ofBits .f32 b = if ex = 255 then (if fr = 0 then (⊤ : EReal) else ⊥)
      else ((((8388608 + fr : ℕ) : ℝ) * (2 : ℝ) ^ ((ex : ℤ) - 150) : ℝ) : EReal) := by
  have e1 : (b.extractLsb' 23 8).toNat = ex := by
    rw [BitVec.extractLsb'_toNat, Nat.shiftRight_eq_div_pow, hb]; omega
  have e2 : (b.extractLsb' 0 23).toNat = fr := by
    rw [BitVec.extractLsb'_toNat, Nat.shiftRight_eq_div_pow, hb]; omega
  have e3 : (b.extractLsb' 31 1 == 1#1) = false := by
    rw [beq_eq_false_iff_ne]
    intro h
    have := congrArg BitVec.toNat h
    rw [BitVec.extractLsb'_toNat, Nat.shiftRight_eq_div_pow, hb] at this
    simp at this
    omega
  show Ideal.ieee 8 23 b = _
  unfold Ideal.ieee
  simp only [e1, e2, show (8 + 23 : ℕ) = 31 from rfl, e3]
  simp only [h0, if_false, Bool.false_eq_true]
  norm_num
  split_ifs
  · rfl
  · rfl
  · rw [show (ex : ℤ) - 127 - 23 = (ex : ℤ) - 150 by ring]

/-- The zero pattern denotes zero. -/
theorem ofBits_zero : Ideal.ofBits .f32 0#32 = 0 := by
  show Ideal.ieee 8 23 0#32 = _
  unfold Ideal.ieee
  simp

/-- A power of two times eight thousand times a number. -/
theorem pow_shift (e : ℤ) (m : ℕ) : (((8388608 + 8192 * m : ℕ) : ℝ) * (2 : ℝ) ^ (e + 112 - 150))
    = (((1024 + m : ℕ) : ℝ) * (2 : ℝ) ^ (e - 25)) := by
  rw [show e + 112 - 150 = (e - 25) + (-13) by ring, zpow_add₀ (by norm_num)]
  push_cast
  norm_num
  ring

/-- The kernel's decoding gives the value of the half. -/
theorem kdec_eq (d : BitVec 16) : kdec (d.setWidth 32) = half d := by
  have hd := d.isLt
  have hn : (d.setWidth 32).toNat = d.toNat := by simp; omega
  generalize hh : d.setWidth 32 = h at hn
  obtain ⟨n, hN⟩ : ∃ n, n = d.toNat := ⟨_, rfl⟩
  have aS : (h &&& 32768#32 ≠ 0#32) ↔ 32768 ≤ d.toNat := by
    rw [Ne, ← BitVec.toNat_inj, BitVec.toNat_and]
    show ¬ (h.toNat &&& 32768 = 0) ↔ _
    rw [nat_and_sgn, hn]; omega
  have aE : (h &&& 31744#32 = 0#32) ↔ d.toNat / 1024 % 32 = 0 := by
    rw [← BitVec.toNat_inj, BitVec.toNat_and]
    show (h.toNat &&& 31744 = 0) ↔ _
    rw [nat_and_exp, hn]; omega
  have aT : (h &&& 31744#32 = 31744#32) ↔ d.toNat / 1024 % 32 = 31 := by
    rw [← BitVec.toNat_inj, BitVec.toNat_and]
    show (h.toNat &&& 31744 = 31744) ↔ _
    rw [nat_and_exp, hn]; omega
  have base : (((h &&& 32767#32) <<< 13) + 939524096#32).toNat = (d.toNat % 32768) * 8192 + 939524096 := by
    have : (h &&& 32767#32).toNat = d.toNat % 32768 := by
      rw [BitVec.toNat_and]
      show h.toNat &&& 32767 = _
      rw [nat_and_mag, hn]
    rw [BitVec.toNat_add, BitVec.toNat_shiftLeft, this, Nat.shiftLeft_eq, BitVec.toNat_ofNat]
    omega
  obtain ⟨E, hE⟩ : ∃ E, E = d.toNat / 1024 % 32 := ⟨_, rfl⟩
  obtain ⟨M, hM⟩ : ∃ M, M = d.toNat % 1024 := ⟨_, rfl⟩
  have hEM : d.toNat % 32768 = 1024 * E + M := by omega
  have hE' : E < 32 := by omega
  have hM' : M < 1024 := by omega
  have magEq : (if h &&& 31744#32 = 0#32 then Ideal.ofBits .f32 (kbits h + 8388608#32) - Ideal.ofBits .f32 0x38800000#32
      else Ideal.ofBits .f32 (kbits h)) = mag E M := by
    unfold kbits mag
    simp only [aE, aT, ← hE]
    by_cases z : E = 0
    · have z' : ¬ E = 31 := by omega
      simp only [z, z', if_true, if_false, show ¬ (0 = 31) by decide]
      rw [ofBits_fields _ 113 (8192 * M) ?_ (by omega) (by omega) (by omega),
        ofBits_fields 0x38800000#32 113 0 rfl (by omega) (by omega) (by omega)]
      · simp only [show ¬ ((113 : ℕ) = 255) by decide, if_false]
        rw [← EReal.coe_sub]
        refine congrArg (fun r : ℝ => (r : EReal)) ?_
        push_cast
        norm_num
        ring
      · rw [BitVec.toNat_add, base, BitVec.toNat_ofNat]
        omega
    · by_cases y : E = 31
      · simp only [y, if_true, show ¬ (31 = 0) by decide, if_false]
        rw [ofBits_fields _ 255 (8192 * M) ?_ (by omega) (by omega) (by omega)]
        · have : (8192 * M = 0) ↔ M = 0 := by omega
          simp only [this, if_true]
        · rw [BitVec.toNat_add, base, BitVec.toNat_ofNat]
          omega
      · simp only [z, y, if_false]
        rw [ofBits_fields _ (E + 112) (8192 * M) ?_ (by omega) (by omega) (by omega)]
        · rw [if_neg (by omega)]
          refine congrArg (fun r : ℝ => (r : EReal)) ?_
          have := pow_shift (E : ℤ) M
          push_cast at this ⊢
          exact this
        · rw [base]; omega
  unfold kdec half
  rw [magEq, ← hE, ← hM]
  simp only [aS, ofBits_zero, zero_sub]

/-- The reference's decoding gives the value of the half. -/
theorem rdec_eq (d : BitVec 16) : rdec d = half d := by
  have hd := d.isLt
  obtain ⟨E, hE⟩ : ∃ E, E = d.toNat / 1024 % 32 := ⟨_, rfl⟩
  obtain ⟨M, hM⟩ : ∃ M, M = d.toNat % 1024 := ⟨_, rfl⟩
  have hE' : E < 32 := by omega
  have hM' : M < 1024 := by omega
  have hi : (d.signExtend 32).toInt = d.toInt := BitVec.toInt_signExtend_of_le (by decide)
  have hs : ((d.signExtend 32).slt 0#32) = decide (32768 ≤ d.toNat) := by
    have e : (d.toInt < 0) ↔ 32768 ≤ d.toNat := by
      rw [BitVec.toInt_eq_toNat_cond]; split <;> omega
    rw [BitVec.slt_eq_decide, hi]
    simp only [BitVec.toInt_zero, e]
  have hlow : ∀ i, i < 16 → (d.signExtend 32).getLsbD i = d.getLsbD i := fun i h => by
    rw [BitVec.getLsbD_signExtend]; simp [h]; omega
  have e1 : ((d.signExtend 32).sshiftRight 10) &&& 31#32 = BitVec.ofNat 32 E := by
    have : ((d.signExtend 32).sshiftRight 10) &&& 31#32 = (d.extractLsb' 10 5).setWidth 32 := by
      apply BitVec.eq_of_getLsbD_eq
      intro i h
      rcases Nat.lt_or_ge i 5 with g | g
      · have m : (31#32 : BitVec 32).getLsbD i = true := by interval_cases i <;> rfl
        simp only [BitVec.getLsbD_and, m, BitVec.getLsbD_setWidth, BitVec.getLsbD_extractLsb', BitVec.getLsbD_sshiftRight]
        simp [g, h]
        rw [if_pos (by omega), hlow (10 + i) (by omega)]
        simp [h]
      · have m : (31#32 : BitVec 32).getLsbD i = false := by interval_cases i <;> rfl
        simp only [BitVec.getLsbD_and, m, BitVec.getLsbD_setWidth, BitVec.getLsbD_extractLsb']
        simp; omega
    rw [this]
    apply BitVec.eq_of_toNat_eq
    rw [BitVec.toNat_setWidth, BitVec.extractLsb'_toNat, Nat.shiftRight_eq_div_pow, BitVec.toNat_ofNat, hE]
  have e2 : (d.signExtend 32) &&& 1023#32 = BitVec.ofNat 32 M := by
    have : (d.signExtend 32) &&& 1023#32 = (d.extractLsb' 0 10).setWidth 32 := by
      apply BitVec.eq_of_getLsbD_eq
      intro i h
      rcases Nat.lt_or_ge i 10 with g | g
      · have m : (1023#32 : BitVec 32).getLsbD i = true := by interval_cases i <;> rfl
        simp only [BitVec.getLsbD_and, m, BitVec.getLsbD_setWidth, BitVec.getLsbD_extractLsb']
        rw [hlow i (by omega)]
        simp [g, h]
      · have m : (1023#32 : BitVec 32).getLsbD i = false := by interval_cases i <;> rfl
        simp only [BitVec.getLsbD_and, m, BitVec.getLsbD_setWidth, BitVec.getLsbD_extractLsb']
        simp; omega
    rw [this]
    apply BitVec.eq_of_toNat_eq
    rw [BitVec.toNat_setWidth, BitVec.extractLsb'_toNat, Nat.shiftRight_eq_div_pow, BitVec.toNat_ofNat, hM]
    omega
  have small : ∀ k : ℕ, k < 2048 → (BitVec.ofNat 32 k).toInt = (k : ℤ) := fun k hk => by
    rw [BitVec.toInt_eq_toNat_cond, BitVec.toNat_ofNat]
    split <;> omega
  have eqn : ∀ k l : ℕ, k < 2048 → l < 2048 → (BitVec.ofNat 32 k = BitVec.ofNat 32 l ↔ k = l) := fun k l hk hl => by
    rw [← BitVec.toNat_inj, BitVec.toNat_ofNat, BitVec.toNat_ofNat]; omega
  unfold rdec half
  simp only [e1, e2, hs, ← hE, ← hM]
  have magEq : (if BitVec.ofNat 32 E = 31#32 then (if BitVec.ofNat 32 M = 0#32 then Ideal.ofBits .f32 0x7F800000#32 else Ideal.ofBits .f32 0x7FC00000#32)
      else (((if BitVec.ofNat 32 E = 0#32 then BitVec.ofNat 32 M else BitVec.ofNat 32 M + 1024#32).toInt : ℝ) : EReal)
        * Ideal.ofBits .f32 (((if (1#32).slt (BitVec.ofNat 32 E) then BitVec.ofNat 32 E else 1#32) + 102#32) <<< 23)) = mag E M := by
    unfold mag
    simp only [eqn E 31 (by omega) (by omega), eqn E 0 (by omega) (by omega), eqn M 0 (by omega) (by omega)]
    by_cases y : E = 31
    · simp only [y, if_true]
      by_cases z : M = 0
      · simp only [z, if_true]
        rw [ofBits_fields 0x7F800000#32 255 0 rfl (by omega) (by omega) (by omega)]
        simp
      · simp only [z, if_false]
        rw [ofBits_fields 0x7FC00000#32 255 4194304 rfl (by omega) (by omega) (by omega)]
        simp
    · have hx : (if (1#32).slt (BitVec.ofNat 32 E) then BitVec.ofNat 32 E else 1#32) = BitVec.ofNat 32 (max E 1) := by
        rw [BitVec.slt_eq_decide, small E (by omega)]
        by_cases g : 1 < E
        · rw [if_pos (by simpa using g), Nat.max_eq_left (by omega)]
        · rw [if_neg (by simpa using g), Nat.max_eq_right (by omega)]
      have sc : Ideal.ofBits .f32 ((BitVec.ofNat 32 (max E 1) + 102#32) <<< 23)
          = (((2 : ℝ) ^ ((max E 1 : ℕ) - 25 : ℤ) : ℝ) : EReal) := by
        rw [ofBits_fields _ (max E 1 + 102) 0 ?_ (by omega) (by omega) (by omega), if_neg (by omega)]
        · congr 1
          rw [show ((max E 1 + 102 : ℕ) : ℤ) - 150 = ((max E 1 : ℕ) : ℤ) - 25 + (-23) by push_cast; ring, zpow_add₀ (by norm_num)]
          norm_num
          ring
        · rw [BitVec.toNat_shiftLeft, BitVec.toNat_add, BitVec.toNat_ofNat, BitVec.toNat_ofNat, Nat.shiftLeft_eq]
          omega
      simp only [y, if_false, hx, sc]
      by_cases z : E = 0
      · simp only [z, if_true, small M (by omega)]
        rw [← EReal.coe_mul]
        refine congrArg (fun r : ℝ => (r : EReal)) ?_
        norm_num
      · simp only [z, if_false]
        have : BitVec.ofNat 32 M + 1024#32 = BitVec.ofNat 32 (1024 + M) := by
          apply BitVec.eq_of_toNat_eq
          rw [BitVec.toNat_add, BitVec.toNat_ofNat, BitVec.toNat_ofNat, BitVec.toNat_ofNat]; omega
        rw [this, small (1024 + M) (by omega), ← EReal.coe_mul, Nat.max_eq_left (by omega)]
        refine congrArg (fun r : ℝ => (r : EReal)) ?_
        rw [Int.cast_natCast]
  rw [magEq]
  simp only [decide_eq_true_eq]

end Cert.Val
-- ==== Proof.Value.Elem.lean ====
/-
  The dequantized block of a super block, element by element, on the extended reals.
-/
module

public import proofs.«01_k».proof.Proof.Value.Step
public import proofs.«01_k».proof.Proof.Value.Bits
public import proofs.«01_k».proof.Proof.Value.Half
public import Idealize.ShloMosaic.Lib.Pipeline.Value

@[expose] public section

set_option maxRecDepth 16384

noncomputable section

namespace Cert.Val

open Idealize.ShloMosaic Idealize.ShloMosaic.TcCoe Idealize.ShloMosaic.Tactic Cert.KernelIdeal Cert.KernelIdeal.Gen

/-- A shift of a word to the left by a literal amount. -/
theorem shl_lit (u : ArithUnit) (x : BitVec 32) (n : ℕ) (h : n < 32) : IntOp.shli u x (BitVec.ofNat 32 n) = x <<< n := by
  have e : (BitVec.ofNat 32 n).toNat = n := by rw [BitVec.toNat_ofNat]; omega
  rw [IntOp.shli, if_pos (by omega), BitVec.shiftLeft_eq', e]

/-- A logical shift of a word to the right by a literal amount. -/
theorem shr_lit (u : ArithUnit) (x : BitVec 32) (n : ℕ) (h : n < 32) : IntOp.shrui u x (BitVec.ofNat 32 n) = x >>> n := by
  have e : (BitVec.ofNat 32 n).toNat = n := by rw [BitVec.toNat_ofNat]; omega
  rw [IntOp.shrui, if_pos (by omega), BitVec.ushiftRight_eq', e]

/-- An arithmetic shift of a word to the right by a literal amount. -/
theorem sar_lit (u : ArithUnit) (x : BitVec 32) (n : ℕ) (h : n < 32) : IntOp.shrsi u x (BitVec.ofNat 32 n) = x.sshiftRight n := by
  have e : (BitVec.ofNat 32 n).toNat = n := by rw [BitVec.toNat_ofNat]; omega
  rw [IntOp.shrsi, if_pos (by omega), BitVec.sshiftRight', e]

/-- A choice between two values by a comparison for equality. -/
theorem select_eq {α : Type} {w : ℕ} (x y : BitVec w) (a b : α) : Scalar.select (IntOp.cmpi .eq x y) a b = if x = y then a else b := by
  by_cases h : x = y
  · simp [Scalar.select, IntOp.cmpi, h]
  · have e : (x == y) = false := beq_eq_false_iff_ne.2 h
    simp [Scalar.select, IntOp.cmpi, h, e]

/-- A choice between two values by a comparison for inequality. -/
theorem select_ne {α : Type} {w : ℕ} (x y : BitVec w) (a b : α) : Scalar.select (IntOp.cmpi .ne x y) a b = if x ≠ y then a else b := by
  by_cases h : x = y
  · simp [Scalar.select, IntOp.cmpi, h]
  · have e : (x != y) = true := bne_iff_ne.2 h
    simp [Scalar.select, IntOp.cmpi, h, e]

/-- A choice between two values by a signed comparison. -/
theorem select_slt {α : Type} {w : ℕ} (x y : BitVec w) (a b : α) : Scalar.select (IntOp.cmpi .slt x y) a b = if x.slt y then a else b := by
  by_cases h : x.slt y <;> simp [Scalar.select, IntOp.cmpi, h]

/-- A word seen as four bytes, one a row. -/
theorem bytes_of_words (w : IVec S16x128 32) (k : Fin 64) (c : Fin 128) :
    bitcast S64x128 8 w bitcasts_S16x128_w32_S64x128_w8 (ix2 k c) = byte (w (ix2 ⟨k.val / 4, by omega⟩ c)) (k.val % 4) := by
  refine (byte_ext _ _ _ fun b hb => ?_).symm
  rw [bitcast_getLsbD w _ _ b hb (by decide)]
  have hr : (S64x128.row (ix2 k c : S64x128.Idx) * 8 + b) / 32 = k.val / 4 := by
    show (k.val * 8 + b) / 32 = _; omega
  have hq : (S64x128.row (ix2 k c : S64x128.Idx) * 8 + b) % 32 = 8 * (k.val % 4) + b := by
    show (k.val * 8 + b) % 32 = _; omega
  rw [hq, Shape.Bitcasts.srcIdx_congr _ _ hr _ (fun a ha => by
    match a with
    | ⟨0, _⟩ => show k.val / 4 < 16; omega
    | ⟨1, _⟩ => exact absurd ha (of_decide_eq_false rfl))]
  congr 2
  funext a
  apply Fin.ext
  match a with
  | ⟨0, _⟩ => rfl
  | ⟨1, _⟩ => rfl

/-- Four rows of bytes seen as words. -/
theorem words_of_bytes (x : IVec S64x128 8) (m : Fin 16) (c : Fin 128) (i : Fin 4) :
    byte (bitcast S16x128 32 x bitcasts_S64x128_w8_S16x128_w32 (ix2 m c)) i.val = x (ix2 ⟨4 * m.val + i.val, by omega⟩ c) := by
  refine byte_ext _ _ _ fun b hb => ?_
  rw [bitcast_getLsbD x _ _ (8 * i.val + b) (by omega) (by decide)]
  have hr : (S16x128.row (ix2 m c : S16x128.Idx) * 32 + (8 * i.val + b)) / 8 = 4 * m.val + i.val := by
    show (m.val * 32 + (8 * i.val + b)) / 8 = _; omega
  have hq : (S16x128.row (ix2 m c : S16x128.Idx) * 32 + (8 * i.val + b)) % 8 = b := by
    show (m.val * 32 + (8 * i.val + b)) % 8 = _; omega
  rw [hq, Shape.Bitcasts.srcIdx_congr _ _ hr _ (fun a ha => by
    match a with
    | ⟨0, _⟩ => show 4 * m.val + i.val < 64; omega
    | ⟨1, _⟩ => exact absurd ha (of_decide_eq_false rfl))]
  congr 2
  funext a
  apply Fin.ext
  match a with
  | ⟨0, _⟩ => rfl
  | ⟨1, _⟩ => rfl

/-- Four super blocks' rows of bytes seen as words. -/
theorem words_of_codes (x : IVec S128x8x128 8) (a : Fin 128) (g : Fin 2) (k : Fin 128) (j : Fin 4) :
    byte (bitcast S128x2x128 32 x bitcasts_S128x8x128_w8_S128x2x128_w32 (ix3 a g k)) j.val = x (ix3 a (nOf g j) k) := by
  refine byte_ext _ _ _ fun b hb => ?_
  rw [bitcast_getLsbD x _ _ (8 * j.val + b) (by omega) (by decide)]
  have hr : (S128x2x128.row (ix3 a g k : S128x2x128.Idx) * 32 + (8 * j.val + b)) / 8 = 4 * g.val + j.val := by
    show (g.val * 32 + (8 * j.val + b)) / 8 = _; omega
  have hq : (S128x2x128.row (ix3 a g k : S128x2x128.Idx) * 32 + (8 * j.val + b)) % 8 = b := by
    show (g.val * 32 + (8 * j.val + b)) % 8 = _; omega
  rw [hq, Shape.Bitcasts.srcIdx_congr _ _ hr _ (fun a ha => by
    match a with
    | ⟨0, _⟩ => exact absurd ha (of_decide_eq_false rfl)
    | ⟨1, _⟩ => show 4 * g.val + j.val < 8; omega
    | ⟨2, _⟩ => exact absurd ha (of_decide_eq_false rfl))]
  congr 2
  funext a
  apply Fin.ext
  match a with
  | ⟨0, _⟩ => rfl
  | ⟨1, _⟩ => rfl
  | ⟨2, _⟩ => rfl

/-- Bit `q` of a word made of two rows of halves. -/
theorem word_of_halves_bit (x : IVec S8x512 16) (m : Fin 4) (o : Fin 512) (e : Fin 2) (b : ℕ) (hb : b < 16) :
    (bitcast S4x512 32 x bitcasts_S8x512_w16_S4x512_w32 (ix2 m o)).getLsbD (16 * e.val + b)
      = (x (ix2 ⟨2 * m.val + e.val, by omega⟩ o)).getLsbD b := by
  rw [bitcast_getLsbD x _ _ (16 * e.val + b) (by omega) (by decide)]
  have hr : (S4x512.row (ix2 m o : S4x512.Idx) * 32 + (16 * e.val + b)) / 16 = 2 * m.val + e.val := by
    show (m.val * 32 + (16 * e.val + b)) / 16 = _; omega
  have hq : (S4x512.row (ix2 m o : S4x512.Idx) * 32 + (16 * e.val + b)) % 16 = b := by
    show (m.val * 32 + (16 * e.val + b)) % 16 = _; omega
  rw [hq, Shape.Bitcasts.srcIdx_congr _ _ hr _ (fun a ha => by
    match a with
    | ⟨0, _⟩ => show 2 * m.val + e.val < 8; omega
    | ⟨1, _⟩ => exact absurd ha (of_decide_eq_false rfl))]
  congr 2
  funext a
  apply Fin.ext
  match a with
  | ⟨0, _⟩ => rfl
  | ⟨1, _⟩ => rfl

/-- The low half of a word made of two rows of halves. -/
theorem word_low (x : IVec S8x512 16) (m : Fin 4) (o : Fin 512) :
    bitcast S4x512 32 x bitcasts_S8x512_w16_S4x512_w32 (ix2 m o) &&& 65535#32
      = (x (ix2 ⟨2 * m.val, by omega⟩ o)).setWidth 32 := by
  apply BitVec.eq_of_getLsbD_eq
  intro b hb
  have mk : ∀ b : Fin 32, (65535#32).getLsbD b.val = decide (b.val < 16) := by decide +kernel
  rw [BitVec.getLsbD_and, mk ⟨b, hb⟩, BitVec.getLsbD_setWidth]
  dsimp only
  by_cases h : b < 16
  · have := word_of_halves_bit x m o 0 b h
    rw [show 16 * (0 : Fin 2).val + b = b by simp] at this
    rw [this]
    simp [h, hb]
  · have e1 : (x (ix2 ⟨2 * m.val, by omega⟩ o)).getLsbD b = false := BitVec.getLsbD_of_ge _ _ (by omega)
    simp [h, e1]

/-- The high half of a word made of two rows of halves. -/
theorem word_high (x : IVec S8x512 16) (m : Fin 4) (o : Fin 512) :
    bitcast S4x512 32 x bitcasts_S8x512_w16_S4x512_w32 (ix2 m o) >>> 16
      = (x (ix2 ⟨2 * m.val + 1, by omega⟩ o)).setWidth 32 := by
  apply BitVec.eq_of_getLsbD_eq
  intro b hb
  rw [BitVec.getLsbD_ushiftRight, BitVec.getLsbD_setWidth]
  by_cases h : b < 16
  · have := word_of_halves_bit x m o 1 b h
    rw [show 16 * (1 : Fin 2).val + b = 16 + b by simp] at this
    rw [this]
    simp [hb]
  · have e1 : (x (ix2 ⟨2 * m.val + 1, by omega⟩ o)).getLsbD b = false := BitVec.getLsbD_of_ge _ _ (by omega)
    rw [BitVec.getLsbD_of_ge _ _ (by omega), e1]
    simp

/-- Byte `j` of a transposed word of low nibbles. -/
theorem ltPay_byte (g : Fin 2) (v : Vec Ideal S128x8x128 .i8) (k a : Fin 128) (j : Fin 4) :
    byte (ltPay (F := Ideal) g v (ix4 0 0 k a)) j.val = v (ix3 a (nOf g j) k) := by
  match g with
  | 0 =>
    refine Eq.trans (congrArg (fun x => byte x j.val) ?_) (words_of_codes v a 0 k j)
    unfold ltPay
    pointwise [k0_pay17]
  | 1 =>
    refine Eq.trans (congrArg (fun x => byte x j.val) ?_) (words_of_codes v a 1 k j)
    unfold ltPay
    pointwise [k0_pay464]

/-- The gathered words of low nibbles. -/
theorem ljOf_apply (j : Fin 4) (r : Fin 4 → Vec Ideal S1x1x32x128 .i32) (m : Fin 32) (c : Fin 128) :
    ljOf (F := Ideal) j r (ix2 m c) = gather j (r 0 (ix4 0 0 m c)) (r 1 (ix4 0 0 m c)) (r 2 (ix4 0 0 m c)) (r 3 (ix4 0 0 m c)) := by
  match j with
  | 0 => unfold ljOf; pointwise [lj0, pack8, row]; simp (disch := decide) only [shl_lit, shr_lit]; rfl
  | 1 => unfold ljOf; pointwise [lj1, pack8, down8, row]; simp (disch := decide) only [shl_lit, shr_lit]; rfl
  | 2 => unfold ljOf; pointwise [lj2, pack8, down16, row]; simp (disch := decide) only [shl_lit, shr_lit]; rfl
  | 3 => unfold ljOf; pointwise [lj3, pack8, down8, down16, row]; simp (disch := decide) only [shl_lit, shr_lit]; rfl

/-- Byte `i` of a gathered word is the low nibbles of the row it stands for. -/
theorem lj_byte (x1 : Vec Ideal S512x8x128 .i8) (g : Fin 2) (ob j : Fin 4) (m : Fin 32) (c : Fin 128) (i : Fin 4) :
    byte (ljOf (F := Ideal) j (ltv (F := Ideal) x1 g ob) (ix2 m c)) i.val
      = x1 (ix3 ⟨128 * ob.val + c.val, by omega⟩ (nOf g j) ⟨4 * m.val + i.val, by omega⟩) := by
  rw [ljOf_apply]
  rw [gather_byte j (fun i => ltv (F := Ideal) x1 g ob i (ix4 0 0 m c)) i]
  exact ltPay_byte g (qlv x1 ob) ⟨4 * m.val + i.val, by omega⟩ c j

/-- A word of high bits with its fields' top bits flipped. -/
theorem qw_apply (v : Vec Ideal S1x64x128 .i8) (m : Fin 16) (c : Fin 128) :
    qw (F := Ideal) v (ix2 m c)
      = bitcast S16x128 32 (shapeCast S64x128 v shapeCasts_S1x64x128_S64x128) bitcasts_S64x128_w8_S16x128_w32 (ix2 m c) ^^^ 2863311530#32 := by
  pointwise [qw]
  rfl

/-- A code word of a quarter. -/
theorem code_apply (f : Fin 4) (l : IVec S32x128 32) (q : IVec S16x128 32) (m : Fin 16) (c : Fin 128) :
    code f l q (ix2 m c) = codeWord f (l (ix2 ⟨16 * (f.val % 2) + m.val, by omega⟩ c)) (q (ix2 m c)) := by
  match f with
  | 0 => unfold code; pointwise [merge, half0]; simp (disch := decide) only [shl_lit, shr_lit]; rfl
  | 1 => unfold code; pointwise [merge, half1]; simp (disch := decide) only [shl_lit, shr_lit]; rfl
  | 2 => unfold code; pointwise [merge, half0]; simp (disch := decide) only [shl_lit, shr_lit]; rfl
  | 3 => unfold code; pointwise [merge, half1]; simp (disch := decide) only [shl_lit, shr_lit]; rfl

/-- An element of a sub block: its code byte times its scale. -/
theorem piece_apply (t : Fin 4) (w : IVec S16x128 32) (e : Vec Ideal S1x1x128 .bf16) (r : Fin 16) (c : Fin 128) :
    piece (F := Ideal) t w e (ix2 r c)
      = (((bitcast S64x128 8 w bitcasts_S16x128_w32_S64x128_w8 (ix2 ⟨16 * t.val + r.val, by omega⟩ c)).toInt : ℝ) : EReal) * e (ix3 0 0 c) := by
  match t with
  | 0 => unfold Gen.piece; pointwise [codeF, scaleRows]; rfl
  | 1 => unfold Gen.piece; pointwise [codeF, scaleRows]; rfl
  | 2 => unfold Gen.piece; pointwise [codeF, scaleRows]; rfl
  | 3 => unfold Gen.piece; pointwise [codeF, scaleRows]; rfl

/-- Sixteen sub blocks one under another, read at a row. -/
theorem cat16 (P : Fin 16 → FVec Ideal S16x128 .bf16) (L : List ((s : Shape) × (s.Idx → Ideal .bf16)))
    (hL : L = List.ofFn fun s : Fin 16 => (⟨S16x128, P s⟩ : (s : Shape) × (s.Idx → Ideal .bf16)))
    (h : Shape.Concatenates (L.map (·.1)) S256x128 0) (k : Fin 256) (c : Fin 128) :
    concatenate S256x128 0 L h (ix2 k c) = P ⟨k.val / 16, by omega⟩ (ix2 ⟨k.val % 16, by omega⟩ c) := by
  subst hL
  refine concatenate_ofFn_apply (s₁ := S16x128) (t := S256x128) 0 P h rfl 16 rfl (ix2 k c)
    ⟨k.val / 16, by omega⟩ rfl (ix2 ⟨k.val % 16, by omega⟩ c) rfl ?_
  intro b hb
  match b with
  | ⟨0, _⟩ => exact absurd rfl hb
  | ⟨1, _⟩ => rfl

/-- Sixteen sub blocks listed quarter by quarter are a list over their number. -/
theorem list16 {α : Type} (Q : Fin 4 → Fin 4 → Fin 16 → α) :
    [Q 0 0 0, Q 1 0 1, Q 2 0 2, Q 3 0 3, Q 0 1 4, Q 1 1 5, Q 2 1 6, Q 3 1 7, Q 0 2 8, Q 1 2 9, Q 2 2 10, Q 3 2 11, Q 0 3 12, Q 1 3 13, Q 2 3 14, Q 3 3 15]
      = List.ofFn fun s : Fin 16 => Q ⟨s.val % 4, by omega⟩ ⟨s.val / 4, by omega⟩ s := by
  simp only [List.ofFn_succ, List.ofFn_zero]
  rfl

/-- An element of the dequantized block: the element of its sub block. -/
theorem wob_apply (l : IVec S32x128 32) (qv : Vec Ideal S1x64x128 .i8) (e : Fin 16 → Vec Ideal S1x1x128 .bf16) (k : Fin 256) (c : Fin 128) :
    wob (F := Ideal) l qv e (ix2 k c)
      = Gen.piece (F := Ideal) ⟨k.val / 16 % 4, by omega⟩ (code ⟨k.val / 64, by omega⟩ l (qw (F := Ideal) qv)) (e ⟨k.val / 16, by omega⟩) (ix2 ⟨k.val % 16, by omega⟩ c) := by
  have gen : ∀ (Q : Fin 4 → Fin 4 → Fin 16 → FVec Ideal S16x128 .bf16) (h),
      concatenate S256x128 0 [⟨S16x128, Q 0 0 0⟩, ⟨S16x128, Q 1 0 1⟩, ⟨S16x128, Q 2 0 2⟩, ⟨S16x128, Q 3 0 3⟩, ⟨S16x128, Q 0 1 4⟩, ⟨S16x128, Q 1 1 5⟩, ⟨S16x128, Q 2 1 6⟩, ⟨S16x128, Q 3 1 7⟩, ⟨S16x128, Q 0 2 8⟩, ⟨S16x128, Q 1 2 9⟩, ⟨S16x128, Q 2 2 10⟩, ⟨S16x128, Q 3 2 11⟩, ⟨S16x128, Q 0 3 12⟩, ⟨S16x128, Q 1 3 13⟩, ⟨S16x128, Q 2 3 14⟩, ⟨S16x128, Q 3 3 15⟩] h (ix2 k c) = Q ⟨k.val / 16 % 4, by omega⟩ ⟨k.val / 64, by omega⟩ ⟨k.val / 16, by omega⟩ (ix2 ⟨k.val % 16, by omega⟩ c) := by
    intro Q h
    refine (cat16 (fun s => Q ⟨s.val % 4, by omega⟩ ⟨s.val / 4, by omega⟩ s) _
      (list16 fun a b s => (⟨S16x128, Q a b s⟩ : (s : Shape) × (s.Idx → Ideal .bf16))) h k c).trans ?_
    have e1 : (⟨k.val / 16 / 4, by omega⟩ : Fin 4) = ⟨k.val / 64, by omega⟩ := Fin.ext (by dsimp only; omega)
    dsimp only
    rw [e1]
  exact gen (fun t f s => Gen.piece (F := Ideal) t (code f l (qw (F := Ideal) qv)) (e s)) _

/-- Column group `o / 128` of the dequantized block. -/
theorem wt_apply (w : Fin 4 → FVec Ideal S256x128 .bf16) (k : Fin 256) (o : Fin 512) :
    wt (F := Ideal) w (ix2 k o) = w ⟨o.val / 128, by omega⟩ (ix2 k ⟨o.val % 128, by omega⟩) := by
  have gen : ∀ (L : List ((s : Shape) × (s.Idx → Ideal .bf16))) (h : Shape.Concatenates (L.map (·.1)) S256x512 1),
      L = List.ofFn (fun s : Fin 4 => (⟨S256x128, w s⟩ : (s : Shape) × (s.Idx → Ideal .bf16)))
      → concatenate S256x512 1 L h (ix2 k o) = w ⟨o.val / 128, by omega⟩ (ix2 k ⟨o.val % 128, by omega⟩) := by
    intro L h hL
    subst hL
    refine concatenate_ofFn_apply (s₁ := S256x128) (t := S256x512) 1 w h rfl 128 rfl (ix2 k o)
      ⟨o.val / 128, by omega⟩ rfl (ix2 k ⟨o.val % 128, by omega⟩) rfl ?_
    intro b hb
    match b with
    | ⟨0, _⟩ => rfl
    | ⟨1, _⟩ => exact absurd rfl hb
  refine gen _ _ ?_
  simp only [List.ofFn_succ, List.ofFn_zero]
  rfl

section Decode

variable {F : FTy → Type} [FloatOps F]

/-- The rebiased pattern of a half, in the operations the kernel uses. -/
def kbitsG (h : BitVec 32) : BitVec 32 :=
  Scalar.select (IntOp.cmpi .eq (IntOp.andi h 31744#32) 31744#32)
    (IntOp.addi (IntOp.addi (IntOp.shli .vector (IntOp.andi h 32767#32) 13#32) 939524096#32) 939524096#32)
    (IntOp.addi (IntOp.shli .vector (IntOp.andi h 32767#32) 13#32) 939524096#32)

/-- The magnitude of a half, in the operations the kernel uses. -/
def kmagG (h : BitVec 32) : F .f32 :=
  Scalar.select (IntOp.cmpi .eq (IntOp.andi h 31744#32) 0#32)
    (FloatOps.subf (FloatOps.ofBits .f32 (IntOp.addi (kbitsG h) 8388608#32)) (FloatOps.ofBits .f32 0x38800000#32))
    (FloatOps.ofBits .f32 (kbitsG h))

/-- A quarter of a half, in the operations the kernel uses. -/
def kdecG (h : BitVec 32) : F .f32 :=
  FloatOps.mulf (Scalar.select (IntOp.cmpi .ne (IntOp.andi h 32768#32) 0#32)
    (FloatOps.subf (FloatOps.ofBits .f32 0x00000000#32) (kmagG h)) (kmagG h)) (FloatOps.ofBits .f32 0x3E800000#32)

/-- The decoding of the low halves of the words, at an index. -/
theorem pay5_at (x4 : Vec F S8x512 .i16) (i : S4x512.Idx) :
    k0_pay5 (F := F) x4 i = kdecG (IntOp.andi (k0_pay4 (F := F) x4 i) 65535#32) := rfl

/-- The decoding of the high halves of the words, at an index. -/
theorem pay6_at (v : IVec S4x512 32) (i : S4x512.Idx) :
    k0_pay6 (F := F) v i = kdecG (IntOp.shrui .vector (v i) 16#32) := rfl

/-- The words of the halves. -/
theorem pay4_at (x4 : Vec F S8x512 .i16) (i : S4x512.Idx) :
    k0_pay4 (F := F) x4 i = bitcast S4x512 32 x4 bitcasts_S8x512_w16_S4x512_w32 i := by
  unfold k0_pay4
  rw [shapeCast_self]

end Decode

/-- A product of extended reals. -/
theorem mulf_val (x y : EReal) : (FloatOps.mulf (F := Ideal) (φ := .f32) x y : EReal) = x * y := rfl
/-- A difference of extended reals. -/
theorem subf_val (x y : EReal) : (FloatOps.subf (F := Ideal) (φ := .f32) x y : EReal) = x - y := rfl
/-- What a pattern denotes. -/
theorem ofBits_val (b : BitVec 32) : (FloatOps.ofBits (F := Ideal) .f32 b : EReal) = Ideal.ofBits .f32 b := rfl

/-- The kernel's decoding, on the extended reals. -/
theorem kdecG_val (h : BitVec 32) : kdecG (F := Ideal) h = kdec h * Ideal.ofBits .f32 0x3E800000#32 := by
  have eb : kbitsG h = kbits h := by
    unfold kbitsG kbits
    rw [select_eq, shl_lit _ _ _ (by decide)]
    rfl
  have em : kmagG (F := Ideal) h = (if h &&& 31744#32 = 0#32 then Ideal.ofBits .f32 (kbits h + 8388608#32) - Ideal.ofBits .f32 0x38800000#32 else Ideal.ofBits .f32 (kbits h)) := by
    unfold kmagG
    rw [select_eq, eb, subf_val, ofBits_val, ofBits_val, ofBits_val]
    rfl
  unfold kdecG kdec
  rw [select_ne, mulf_val, em, subf_val, ofBits_val, ofBits_val]
  rfl

/-- The scale of the super blocks of one parity, at row `m` of the words. -/
theorem d4_apply (x4 : Vec Ideal S8x512 .i16) (b : Fin 2) (m : Fin 4) (o : Fin 512) :
    d4 (F := Ideal) x4 b (ix2 m o) = half (x4 (ix2 ⟨2 * m.val + b.val, by omega⟩ o)) * Ideal.ofBits .f32 0x3E800000#32 := by
  match b with
  | 0 =>
    refine (pay5_at (F := Ideal) x4 (ix2 m o)).trans ?_
    rw [pay4_at, kdecG_val]
    refine congrArg (fun z : EReal => z * Ideal.ofBits .f32 0x3E800000#32) ?_
    exact (congrArg kdec (word_low x4 m o)).trans (kdec_eq _)
  | 1 =>
    refine (pay6_at (F := Ideal) (k0_pay4 (F := Ideal) x4) (ix2 m o)).trans ?_
    rw [pay4_at, kdecG_val, shr_lit _ _ _ (by decide)]
    refine congrArg (fun z : EReal => z * Ideal.ofBits .f32 0x3E800000#32) ?_
    exact (congrArg kdec (word_high x4 m o)).trans (kdec_eq _)

/-- A super block's scale times its sub block's scale. -/
theorem effPay_apply (h : Fin 4) (d : FVec Ideal S4x512 .f32) (v : Vec Ideal S1x16x512 .i8) (s : Fin 16) (o : Fin 512) :
    effPay (F := Ideal) h d v (ix3 0 s o) = d (ix2 h o) * (((v (ix3 0 s o)).toInt : ℝ) : EReal) := by
  have ext : ∀ x : BitVec 8, (x.signExtend 32).toInt = x.toInt := fun x => BitVec.toInt_signExtend_of_le (by decide)
  match h with
  | 0 => unfold effPay; pointwise [k0_pay8, k0_pay15]; exact congrArg (fun z : ℤ => d (ix2 0 o) * ((z : ℝ) : EReal)) (ext _)
  | 1 => unfold effPay; pointwise [k0_pay10]; exact congrArg (fun z : ℤ => d (ix2 1 o) * ((z : ℝ) : EReal)) (ext _)
  | 2 => unfold effPay; pointwise [k0_pay12]; exact congrArg (fun z : ℤ => d (ix2 2 o) * ((z : ℝ) : EReal)) (ext _)
  | 3 => unfold effPay; pointwise [k0_pay14]; exact congrArg (fun z : ℤ => d (ix2 3 o) * ((z : ℝ) : EReal)) (ext _)

/-- The dequantized weight of an element with low bits `L`, high bits `H` in quarter `f` of its super block, whose scales are the half
    `d` and the signed byte `s`. -/
def wgt (f : Fin 4) (L H : BitVec 8) (d : BitVec 16) (s : BitVec 8) : EReal :=
  (((codeNat f L H : ℝ) - 32 : ℝ) : EReal) * (half d * ((s.toInt : ℝ) : EReal))

/-- A quarter. -/
theorem quarter : Ideal.ofBits .f32 0x3E800000#32 = (((1 / 4 : ℝ)) : EReal) := by
  rw [ofBits_fields 0x3E800000#32 125 0 rfl (by omega) (by omega) (by omega), if_neg (by omega)]
  refine congrArg (fun r : ℝ => (r : EReal)) ?_
  norm_num

/-- The kernel's factor 4 of the codes cancels its quarter of the scales. -/
theorem wgt_eq (f : Fin 4) (L H : BitVec 8) (d : BitVec 16) (s : BitVec 8) :
    (((codeByte f L H).toInt : ℝ) : EReal) * (half d * Ideal.ofBits .f32 0x3E800000#32 * ((s.toInt : ℝ) : EReal)) = wgt f L H d s := by
  rw [codeByte_toInt, quarter, wgt, mul_right_comm (half d), mul_comm (half d * _) ((1 / 4 : ℝ) : EReal), ← mul_assoc, ← EReal.coe_mul]
  congr 2
  push_cast
  ring

/-- An element of the dequantized block of super block `n = 4 g + j`: row `k`, column `c` of column group `ob`. -/
theorem wtOb_apply (x1 : Vec Ideal S512x8x128 .i8) (x2 : Vec Ideal S8x64x512 .i8) (x3 : Vec Ideal S8x16x512 .i8) (x4 : Vec Ideal S8x512 .i16)
    (g : Fin 2) (j ob : Fin 4) (k : Fin 256) (c : Fin 128) :
    wtOb (F := Ideal) x1 x2 x3 x4 g j ob (ix2 k c)
      = wgt ⟨k.val / 64, by omega⟩ (x1 (ix3 ⟨128 * ob.val + c.val, by omega⟩ (nOf g j) ⟨k.val % 128, by omega⟩))
          (x2 (ix3 (nOf g j) ⟨k.val % 64, by omega⟩ ⟨128 * ob.val + c.val, by omega⟩))
          (x4 (ix2 (nOf g j) ⟨128 * ob.val + c.val, by omega⟩))
          (x3 (ix3 (nOf g j) ⟨k.val / 16, by omega⟩ ⟨128 * ob.val + c.val, by omega⟩)) := by
  unfold wtOb
  rw [wob_apply, piece_apply, bytes_of_words, code_apply, qw_apply, codeWord_byte _ _ _ _ (by omega)]
  have hm : (16 * (k.val / 16 % 4) + k.val % 16) / 4 < 16 := by omega
  have hi : (16 * (k.val / 16 % 4) + k.val % 16) % 4 < 4 := by omega
  have eL := lj_byte x1 g ob j ⟨16 * (k.val / 64 % 2) + (16 * (k.val / 16 % 4) + k.val % 16) / 4, by omega⟩ c ⟨_, hi⟩
  have eH := words_of_bytes (shapeCast S64x128 (qhv (F := Ideal) x2 (nOf g j) ob) shapeCasts_S1x64x128_S64x128) ⟨_, hm⟩ c ⟨_, hi⟩
  have eE : effv (F := Ideal) x3 x4 (nOf g j) ob ⟨k.val / 16, by omega⟩ (ix3 0 0 c)
      = half (x4 (ix2 (nOf g j) ⟨128 * ob.val + c.val, by omega⟩)) * Ideal.ofBits .f32 0x3E800000#32
        * (((x3 (ix3 (nOf g j) ⟨k.val / 16, by omega⟩ ⟨128 * ob.val + c.val, by omega⟩)).toInt : ℝ) : EReal) := by
    refine (effPay_apply _ _ _ ⟨k.val / 16, by omega⟩ ⟨128 * ob.val + c.val, by omega⟩).trans ?_
    rw [d4_apply]
    have en : (⟨2 * ((nOf g j).val / 2) + (nOf g j).val % 2, by have := (nOf g j).isLt; omega⟩ : Fin 8) = nOf g j := Fin.ext (by dsimp only; omega)
    dsimp only
    rw [en]
    rfl
  dsimp only at eL eH ⊢
  rw [eL, eH, eE, ← wgt_eq]
  have c1 : (⟨4 * (16 * (k.val / 64 % 2) + (16 * (k.val / 16 % 4) + k.val % 16) / 4) + (16 * (k.val / 16 % 4) + k.val % 16) % 4, by omega⟩ : Fin 128)
      = ⟨k.val % 128, by omega⟩ := Fin.ext (by dsimp only; omega)
  have c2 : (⟨4 * ((16 * (k.val / 16 % 4) + k.val % 16) / 4) + (16 * (k.val / 16 % 4) + k.val % 16) % 4, by omega⟩ : Fin 64)
      = ⟨k.val % 64, by omega⟩ := Fin.ext (by dsimp only; omega)
  rw [c1, c2]
  have eq2 : shapeCast S64x128 (qhv (F := Ideal) x2 (nOf g j) ob) shapeCasts_S1x64x128_S64x128 (ix2 ⟨k.val % 64, by omega⟩ c)
      = x2 (ix3 (nOf g j) ⟨k.val % 64, by omega⟩ ⟨128 * ob.val + c.val, by omega⟩) := by
    pointwise []
    rfl
  rw [eq2]

/-- An element of the dequantized super block. -/
theorem wt_wtOb (x1 : Vec Ideal S512x8x128 .i8) (x2 : Vec Ideal S8x64x512 .i8) (x3 : Vec Ideal S8x16x512 .i8) (x4 : Vec Ideal S8x512 .i16)
    (g : Fin 2) (j : Fin 4) (k : Fin 256) (o : Fin 512) :
    wt (F := Ideal) (wtOb (F := Ideal) x1 x2 x3 x4 g j) (ix2 k o)
      = wgt ⟨k.val / 64, by omega⟩ (x1 (ix3 o (nOf g j) ⟨k.val % 128, by omega⟩)) (x2 (ix3 (nOf g j) ⟨k.val % 64, by omega⟩ o))
          (x4 (ix2 (nOf g j) o)) (x3 (ix3 (nOf g j) ⟨k.val / 16, by omega⟩ o)) := by
  rw [wt_apply, wtOb_apply]
  have e : (⟨128 * (o.val / 128) + o.val % 128, by omega⟩ : Fin 512) = o := Fin.ext (by dsimp only; omega)
  dsimp only
  rw [e]

/-- One accumulation step at an element. -/
theorem stepV_apply (x0 : Vec Ideal S256x18432 .bf16) (x1 : Vec Ideal S512x8x128 .i8) (x2 : Vec Ideal S8x64x512 .i8) (x3 : Vec Ideal S8x16x512 .i8)
    (x4 : Vec Ideal S8x512 .i16) (c : Fin 9) (g : Fin 2) (j : Fin 4) (acc : Vec Ideal S256x512 .f32) (r : Fin 256) (o : Fin 512) :
    stepV (F := Ideal) x0 x1 x2 x3 x4 c g j acc (ix2 r o)
      = acc (ix2 r o) + ∑ k : Fin 256, x0 (ix2 r ⟨2048 * c.val + 256 * (nOf g j).val + k.val, by have := (nOf g j).isLt; omega⟩)
          * wgt ⟨k.val / 64, by omega⟩ (x1 (ix3 o (nOf g j) ⟨k.val % 128, by omega⟩)) (x2 (ix3 (nOf g j) ⟨k.val % 64, by omega⟩ o))
          (x4 (ix2 (nOf g j) o)) (x3 (ix3 (nOf g j) ⟨k.val / 16, by omega⟩ o)) := by
  have gen : ∀ (w : FVec Ideal S256x512 .bf16) (x : Vec Ideal S256x256 .bf16),
      k0_pay1 (F := Ideal) w acc x (ix2 r o) = acc (ix2 r o) + ∑ k : Fin 256, x (ix2 r k) * w (ix2 k o) := by
    intro w x
    pointwise [k0_pay1]
    done
  unfold stepV
  rw [gen]
  refine congrArg (fun z => acc (ix2 r o) + z) (Finset.sum_congr rfl fun k _ => ?_)
  rw [wt_wtOb]
  rfl

end Cert.Val
-- ==== Proof.Value.RefTerms.lean ====
/-
  The reference's result at an index: the sum over its two halves of the super blocks, read element by element.
-/
module

public import proofs.«01_k».proof.Proof.Gen.ReferenceIdeal.Run
public import proofs.«01_k».proof.Proof.Value.Elem
public import Idealize.ShloMosaic.PureOps.Ideal.Laws

@[expose] public section

set_option maxRecDepth 16384

noncomputable section

namespace Cert.Val

open Idealize.ShloMosaic Idealize.ShloMosaic.TcCoe Idealize.ShloMosaic.Tactic Cert.ReferenceIdeal Cert.ReferenceIdeal.Gen

section Terms

variable {F : FTy → Type} [FloatOps F]

/-- The magnitudes of the halves. -/
def magT (d : IVec S4608x72 16) : FVec F S4608x72 .f32 :=
  (select (cmpi .eq (andi (Host.shrsi (extsi 32 d natLt_16_32) (broadcastInDim S4608x72 ![] bcast_S_S4608x72 (constantI S_ 32 10#32))) (broadcastInDim S4608x72 ![] bcast_S_S4608x72 (constantI S_ 32 31#32))) (broadcastInDim S4608x72 ![] bcast_S_S4608x72 (constantI S_ 32 31#32))) (id (select (cmpi .eq (andi (extsi 32 d natLt_16_32) (broadcastInDim S4608x72 ![] bcast_S_S4608x72 (constantI S_ 32 1023#32))) (broadcastInDim S4608x72 ![] bcast_S_S4608x72 (constantI S_ 32 0#32))) (broadcastInDim S4608x72 ![] bcast_S_S4608x72 (constant S_ .f32 0x7F800000#32)) (broadcastInDim S4608x72 ![] bcast_S_S4608x72 (constant S_ .f32 0x7FC00000#32)))) (mulf (sitofp .f32 (select (cmpi .eq (andi (Host.shrsi (extsi 32 d natLt_16_32) (broadcastInDim S4608x72 ![] bcast_S_S4608x72 (constantI S_ 32 10#32))) (broadcastInDim S4608x72 ![] bcast_S_S4608x72 (constantI S_ 32 31#32))) (broadcastInDim S4608x72 ![] bcast_S_S4608x72 (constantI S_ 32 0#32))) (andi (extsi 32 d natLt_16_32) (broadcastInDim S4608x72 ![] bcast_S_S4608x72 (constantI S_ 32 1023#32))) (addi (andi (extsi 32 d natLt_16_32) (broadcastInDim S4608x72 ![] bcast_S_S4608x72 (constantI S_ 32 1023#32))) (broadcastInDim S4608x72 ![] bcast_S_S4608x72 (constantI S_ 32 1024#32))))) (bitcastToFloat (F := F) .f32 (Host.shli (addi (maxsi (andi (Host.shrsi (extsi 32 d natLt_16_32) (broadcastInDim S4608x72 ![] bcast_S_S4608x72 (constantI S_ 32 10#32))) (broadcastInDim S4608x72 ![] bcast_S_S4608x72 (constantI S_ 32 31#32))) (broadcastInDim S4608x72 ![] bcast_S_S4608x72 (constantI S_ 32 1#32))) (broadcastInDim S4608x72 ![] bcast_S_S4608x72 (constantI S_ 32 102#32))) (broadcastInDim S4608x72 ![] bcast_S_S4608x72 (constantI S_ 32 23#32))))))

/-- The halves as floats. -/
def halfT (d : IVec S4608x72 16) : FVec F S4608x72 .f32 :=
  (select (cmpi .slt (extsi 32 d natLt_16_32) (broadcastInDim S4608x72 ![] bcast_S_S4608x72 (constantI S_ 32 0#32))) (Host.negf (magT (F := F) d)) (magT (F := F) d))

/-- The scales of the sub blocks. -/
def effT (d : IVec S4608x72 16) (sc : IVec S4608x72x16 8) : FVec F S4608x72x16 .bf16 :=
  (truncf .bf16 (mulf (broadcastInDim S4608x72x16 ![0, 1, 2] bcast_S4608x72x1_S4608x72x16_0_1_2 (broadcastInDim S4608x72x1 ![0, 1] bcast_S4608x72_S4608x72x1_0_1 (halfT (F := F) d))) (sitofp .f32 (extsi 32 sc natLt_8_32))) bitsLt_bf16_f32)

/-- The scales, one an element. -/
def rowsT (e : FVec F S4608x72x16 .bf16) : FVec F S4608x72x256 .bf16 :=
  (shapeCast _ (broadcastInDim S4608x72x16x16 ![0, 1, 2, 3] bcast_S4608x72x16x1_S4608x72x16x16_0_1_2_3 (broadcastInDim S4608x72x16x1 ![0, 1, 2] bcast_S4608x72x16_S4608x72x16x1_0_1_2 e)) shapeCasts_S4608x72x16x16_S4608x72x256)

/-- The high bits of the codes, the shift of a half added. -/
def fldT (sh : BitVec 32) (qh : IVec S4608x72x64 8) : IVec S4608x72x128 32 :=
  (Host.shli (andi (Host.shrsi (concatenate S4608x72x128 2 [⟨S4608x72x64, (extui 32 qh natLt_8_32)⟩, ⟨S4608x72x64, (extui 32 qh natLt_8_32)⟩] concatenates_S4608x72x64_S4608x72x64_S4608x72x128_d2) (broadcastInDim S4608x72x128 ![0, 1, 2] bcast_S1x1x128_S4608x72x128_0_1_2 (id (addi (select (cmpi .slt (iotaInDim S1x1x128 32 2) (broadcastInDim S1x1x128 ![] bcast_S_S1x1x128 (constantI S_ 32 64#32))) (broadcastInDim S1x1x128 ![] bcast_S_S1x1x128 (constantI S_ 32 0#32)) (broadcastInDim S1x1x128 ![] bcast_S_S1x1x128 (constantI S_ 32 2#32))) (broadcastInDim S1x1x128 ![] bcast_S_S1x1x128 (constantI S_ 32 sh)))))) (broadcastInDim S4608x72x128 ![] bcast_S_S4608x72x128 (constantI S_ 32 3#32))) (broadcastInDim S4608x72x128 ![] bcast_S_S4608x72x128 (constantI S_ 32 4#32)))

/-- The codes of the first half of the super blocks. -/
def code0T (ql : IVec S4608x72x128 8) (qh : IVec S4608x72x64 8) : IVec S4608x72x128 32 :=
  (ori (andi (extui 32 ql natLt_8_32) (broadcastInDim S4608x72x128 ![] bcast_S_S4608x72x128 (constantI S_ 32 15#32))) (fldT 0#32 qh))

/-- The codes of the second half of the super blocks. -/
def code1T (ql : IVec S4608x72x128 8) (qh : IVec S4608x72x64 8) : IVec S4608x72x128 32 :=
  (ori (Host.shrsi (extui 32 ql natLt_8_32) (broadcastInDim S4608x72x128 ![] bcast_S_S4608x72x128 (constantI S_ 32 4#32))) (fldT 4#32 qh))

/-- The weights of the first half of the super blocks, from their codes and scales. -/
def w0T (code : IVec S4608x72x128 32) (e : FVec F S4608x72x256 .bf16) : FVec F S4608x72x128 .bf16 :=
  (mulf (subf (truncf .bf16 (sitofp .f32 code) bitsLt_bf16_f32) (broadcastInDim S4608x72x128 ![] bcast_S_S4608x72x128 (constant S_ .bf16 0x4200#16))) (extractStridedSlice S4608x72x128 ![0, 0, 0] e slices_S4608x72x256_S4608x72x128_0_0_0))

/-- The weights of the second half of the super blocks, from their codes and scales. -/
def w1T (code : IVec S4608x72x128 32) (e : FVec F S4608x72x256 .bf16) : FVec F S4608x72x128 .bf16 :=
  (mulf (subf (truncf .bf16 (sitofp .f32 code) bitsLt_bf16_f32) (broadcastInDim S4608x72x128 ![] bcast_S_S4608x72x128 (constant S_ .bf16 0x4200#16))) (extractStridedSlice S4608x72x128 ![0, 0, 128] e slices_S4608x72x256_S4608x72x128_0_0_128))

/-- The activations of the first half of the super blocks. -/
def x0T (x : FVec F S256x1x18432 .bf16) : FVec F S256x72x128 .bf16 :=
  (shapeCast _ (extractStridedSlice S256x72x1x128 ![0, 0, 0, 0] (shapeCast _ x shapeCasts_S256x1x18432_S256x72x2x128) slices_S256x72x2x128_S256x72x1x128_0_0_0_0) shapeCasts_S256x72x1x128_S256x72x128)

/-- The activations of the second half of the super blocks. -/
def x1T (x : FVec F S256x1x18432 .bf16) : FVec F S256x72x128 .bf16 :=
  (shapeCast _ (extractStridedSlice S256x72x1x128 ![0, 0, 1, 0] (shapeCast _ x shapeCasts_S256x1x18432_S256x72x2x128) slices_S256x72x2x128_S256x72x1x128_0_0_1_0) shapeCasts_S256x72x1x128_S256x72x128)

/-- The two contractions, added. -/
def outT (x0 x1 : FVec F S256x72x128 .bf16) (w0 w1 : FVec F S4608x72x128 .bf16) : FVec F S256x4608 .bf16 :=
  truncf .bf16 (addf (Host.dotGeneral dot_S256x72x128_S4608x72x128_S256x4608_21_21_0_0_n_n none x0 w0) (Host.dotGeneral dot_S256x72x128_S4608x72x128_S256x4608_21_21_0_0_n_n none x1 w1)) bitsLt_bf16_f32

/-- The reference's result is these terms put together. -/
theorem res_eq (m : (ℓ : Loc nD τ sig) → Buf (Elt F) ℓ) (c : Dev nD) :
    Cert.ReferenceIdeal.Value.res_main_v91 m c
      = outT (F := F) (x0T (F := F) (m ((c.tc : Thread nD τ).loc main_arg0))) (x1T (F := F) (m ((c.tc : Thread nD τ).loc main_arg0)))
          (w0T (F := F) (code0T (m ((c.tc : Thread nD τ).loc main_arg1)) (m ((c.tc : Thread nD τ).loc main_arg2)))
            (rowsT (F := F) (effT (F := F) (m ((c.tc : Thread nD τ).loc main_arg4)) (m ((c.tc : Thread nD τ).loc main_arg3)))))
          (w1T (F := F) (code1T (m ((c.tc : Thread nD τ).loc main_arg1)) (m ((c.tc : Thread nD τ).loc main_arg2)))
            (rowsT (F := F) (effT (F := F) (m ((c.tc : Thread nD τ).loc main_arg4)) (m ((c.tc : Thread nD τ).loc main_arg3))))) := rfl

/-- A half's magnitude, in the operations the reference uses. -/
def rmagG (d : BitVec 16) : F .f32 :=
  Scalar.select (IntOp.cmpi .eq (IntOp.andi (IntOp.shrsi .host (d.signExtend 32) 10#32) 31#32) 31#32)
    (Scalar.select (IntOp.cmpi .eq (IntOp.andi (d.signExtend 32) 1023#32) 0#32) (FloatOps.ofBits .f32 0x7F800000#32) (FloatOps.ofBits .f32 0x7FC00000#32))
    (FloatOps.mulf
      (FloatOps.sitofp .f32 (Scalar.select (IntOp.cmpi .eq (IntOp.andi (IntOp.shrsi .host (d.signExtend 32) 10#32) 31#32) 0#32)
        (IntOp.andi (d.signExtend 32) 1023#32) (IntOp.addi (IntOp.andi (d.signExtend 32) 1023#32) 1024#32)))
      (FloatOps.ofBits .f32 (IntOp.shli .host (IntOp.addi (IntOp.maxsi (IntOp.andi (IntOp.shrsi .host (d.signExtend 32) 10#32) 31#32) 1#32) 102#32) 23#32)))

/-- The magnitudes at an index. -/
theorem magT_at (d : IVec S4608x72 16) (i : S4608x72.Idx) : magT (F := F) d i = rmagG (d i) := rfl

/-- The halves at an index. -/
theorem halfT_at (d : IVec S4608x72 16) (i : S4608x72.Idx) :
    halfT (F := F) d i = Scalar.select (IntOp.cmpi .slt ((d i).signExtend 32) 0#32) (FloatOps.hostNegf (rmagG (d i))) (rmagG (d i)) := rfl

end Terms

end Cert.Val
-- ==== Proof.Value.RefElem.lean ====
/-
  The reference's terms element by element, on the extended reals.
-/
module

public import proofs.«01_k».proof.Proof.Value.RefTerms
public import Idealize.ShloMosaic.Lib.TwoAxisContraction

@[expose] public section

set_option maxRecDepth 16384

noncomputable section

namespace Cert.Val

open Idealize.ShloMosaic Idealize.ShloMosaic.TcCoe Idealize.ShloMosaic.Tactic Cert.ReferenceIdeal Cert.ReferenceIdeal.Gen

/-- A signed word as a float, on the extended reals. -/
theorem sitofp_val (b : BitVec 32) : (FloatOps.sitofp (F := Ideal) .f32 b : EReal) = ((b.toInt : ℝ) : EReal) := rfl

/-- The greater of two signed words. -/
theorem maxsi_val (x y : BitVec 32) : IntOp.maxsi x y = if y.slt x then x else y := rfl

/-- A half as the reference decodes it. -/
theorem halfT_apply (d : IVec S4608x72 16) (i : S4608x72.Idx) : halfT (F := Ideal) d i = half (d i) := by
  rw [halfT_at, ← rdec_eq]
  have em : rmagG (F := Ideal) (d i) = (if ((d i).signExtend 32).sshiftRight 10 &&& 31#32 = 31#32
      then (if (d i).signExtend 32 &&& 1023#32 = 0#32 then Ideal.ofBits .f32 0x7F800000#32 else Ideal.ofBits .f32 0x7FC00000#32)
      else (((if ((d i).signExtend 32).sshiftRight 10 &&& 31#32 = 0#32 then (d i).signExtend 32 &&& 1023#32
          else ((d i).signExtend 32 &&& 1023#32) + 1024#32).toInt : ℝ) : EReal)
        * Ideal.ofBits .f32 (((if (1#32).slt (((d i).signExtend 32).sshiftRight 10 &&& 31#32) then ((d i).signExtend 32).sshiftRight 10 &&& 31#32 else 1#32) + 102#32) <<< 23)) := by
    unfold rmagG
    rw [select_eq, select_eq, select_eq, sar_lit _ _ 10 (by omega), shl_lit _ _ 23 (by omega), mulf_val, ofBits_val, ofBits_val, ofBits_val, sitofp_val, maxsi_val]
    rfl
  rw [select_slt, em]
  rfl

/-- The scales of the sub blocks at an index. -/
theorem effT_apply (d : IVec S4608x72 16) (sc : IVec S4608x72x16 8) (O : Fin 4608) (n : Fin 72) (s : Fin 16) :
    effT (F := Ideal) d sc (ix3 O n s) = half (d (ix2 O n)) * (((sc (ix3 O n s)).toInt : ℝ) : EReal) := by
  have gen : ∀ h : FVec Ideal S4608x72 .f32, (mulf (broadcastInDim S4608x72x16 ![0, 1, 2] bcast_S4608x72x1_S4608x72x16_0_1_2 (broadcastInDim S4608x72x1 ![0, 1] bcast_S4608x72_S4608x72x1_0_1 h)) (sitofp .f32 (extsi 32 sc natLt_8_32))) (ix3 O n s)
      = h (ix2 O n) * ((((sc (ix3 O n s)).signExtend 32).toInt : ℝ) : EReal) := by
    intro h
    pointwise []
    rw [sitofp_val]
  refine (gen (halfT d)).trans ?_
  rw [halfT_apply, BitVec.toInt_signExtend_of_le (by omega)]

/-- An element's scale is its sub block's. -/
theorem rowsT_apply (e : FVec Ideal S4608x72x16 .bf16) (O : Fin 4608) (n : Fin 72) (k : Fin 256) :
    rowsT (F := Ideal) e (ix3 O n k) = e (ix3 O n ⟨k.val / 16, by omega⟩) := by
  pointwise [rowsT]

/-- The activations of the first half of the super blocks at an index. -/
theorem x0T_apply (x : FVec Ideal S256x1x18432 .bf16) (r : Fin 256) (n : Fin 72) (k : Fin 128) :
    x0T (F := Ideal) x (ix3 r n k) = x (ix3 r 0 ⟨n.val * 256 + k.val, by omega⟩) := by
  pointwise [x0T]

/-- The activations of the second half of the super blocks at an index. -/
theorem x1T_apply (x : FVec Ideal S256x1x18432 .bf16) (r : Fin 256) (n : Fin 72) (k : Fin 128) :
    x1T (F := Ideal) x (ix3 r n k) = x (ix3 r 0 ⟨n.val * 256 + 128 + k.val, by omega⟩) := by
  pointwise [x1T]

/-- The offset of the codes. -/
theorem thirtytwo : Ideal.ofBits .bf16 0x4200#16 = ((32 : ℝ) : EReal) := by
  have e : (16896 >>> 7) % 256 = 132 := rfl
  have f : BitVec.extractLsb' 15 1 16896#16 = 0#1 := by decide
  simp [Ideal.ofBits, Ideal.ieee, e, f]
  norm_num
  rw [← EReal.coe_mul]
  norm_num

/-- The weights of the first half at an index. -/
theorem w0T_apply (c : IVec S4608x72x128 32) (e : FVec Ideal S4608x72x256 .bf16) (O : Fin 4608) (n : Fin 72) (k : Fin 128) :
    w0T (F := Ideal) c e (ix3 O n k) = ((((c (ix3 O n k)).toInt : ℝ) : EReal) - Ideal.ofBits .bf16 0x4200#16) * e (ix3 O n ⟨k.val, by omega⟩) := by
  pointwise [w0T]
  rw [sitofp_val]

/-- The weights of the second half at an index. -/
theorem w1T_apply (c : IVec S4608x72x128 32) (e : FVec Ideal S4608x72x256 .bf16) (O : Fin 4608) (n : Fin 72) (k : Fin 128) :
    w1T (F := Ideal) c e (ix3 O n k) = ((((c (ix3 O n k)).toInt : ℝ) : EReal) - Ideal.ofBits .bf16 0x4200#16) * e (ix3 O n ⟨128 + k.val, by omega⟩) := by
  pointwise [w1T]
  rw [sitofp_val]

/-- The result at an index is the sum of the two contractions. -/
theorem outT_apply (x0 x1 : FVec Ideal S256x72x128 .bf16) (w0 w1 : FVec Ideal S4608x72x128 .bf16) (r : Fin 256) (O : Fin 4608) :
    outT (F := Ideal) x0 x1 w0 w1 (ix2 r O)
      = (∑ k : Fin 128, ∑ n : Fin 72, x0 (ix3 r n k) * w0 (ix3 O n k)) + ∑ k : Fin 128, ∑ n : Fin 72, x1 (ix3 r n k) * w1 (ix3 O n k) := by
  pointwise [outT]

/-- A byte's high field of two bits, shifted into place. -/
theorem highBits : ∀ (t : Fin 4) (H : Fin 256),
    IntOp.shli .host (IntOp.andi (IntOp.shrsi .host ((BitVec.ofNat 8 H.val).setWidth 32) (BitVec.ofNat 32 (2 * t.val))) 3#32) 4#32
      = BitVec.ofNat 32 (16 * (H.val / 4 ^ t.val % 4)) := by
  decide +kernel

/-- A byte's low four bits and its high four bits. -/
theorem lowBits : ∀ L : Fin 256,
    IntOp.andi ((BitVec.ofNat 8 L.val).setWidth 32) 15#32 = BitVec.ofNat 32 (L.val % 16)
    ∧ IntOp.shrsi .host ((BitVec.ofNat 8 L.val).setWidth 32) 4#32 = BitVec.ofNat 32 (L.val / 16) := by
  decide +kernel

/-- The two fields of a code put together. -/
theorem codeInt : ∀ (l : Fin 16) (h : Fin 4),
    (IntOp.ori (BitVec.ofNat 32 l.val) (BitVec.ofNat 32 (16 * h.val))).toInt = ((l.val + 16 * h.val : ℕ) : ℤ) := by
  decide +kernel

/-- The shift of an element's high bits: the second 64 elements of a half are two bits higher. -/
theorem shifts : ∀ k : Fin 128, ∀ hh : Fin 2,
    IntOp.addi (Scalar.select (IntOp.cmpi .slt (BitVec.ofNat 32 k.val) 64#32) 0#32 2#32) (BitVec.ofNat 32 (4 * hh.val))
      = BitVec.ofNat 32 (2 * (2 * hh.val + k.val / 64)) := by
  decide +kernel

/-- Two copies of an array of 64 columns, side by side. -/
theorem cat2 (q : IVec S4608x72x64 32) (O : Fin 4608) (n : Fin 72) (k : Fin 128) :
    concatenate S4608x72x128 2 [⟨S4608x72x64, q⟩, ⟨S4608x72x64, q⟩] concatenates_S4608x72x64_S4608x72x64_S4608x72x128_d2 (ix3 O n k)
      = q (ix3 O n ⟨k.val % 64, by omega⟩) := by
  refine concatenate_ofFn_apply (s₁ := S4608x72x64) (t := S4608x72x128) 2 (fun _ : Fin 2 => q) concatenates_S4608x72x64_S4608x72x64_S4608x72x128_d2 rfl 64 rfl (ix3 O n k)
    ⟨k.val / 64, by omega⟩ rfl (ix3 O n ⟨k.val % 64, by omega⟩) rfl ?_
  intro b hb
  match b with
  | ⟨0, _⟩ => rfl
  | ⟨1, _⟩ => rfl
  | ⟨2, _⟩ => exact absurd rfl hb

/-- The high bits of the codes at an index. -/
theorem fldT_apply (hh : Fin 2) (qh : IVec S4608x72x64 8) (O : Fin 4608) (n : Fin 72) (k : Fin 128) :
    fldT (BitVec.ofNat 32 (4 * hh.val)) qh (ix3 O n k)
      = BitVec.ofNat 32 (16 * ((qh (ix3 O n ⟨k.val % 64, by omega⟩)).toNat / 4 ^ (2 * hh.val + k.val / 64) % 4)) := by
  have e : fldT (BitVec.ofNat 32 (4 * hh.val)) qh (ix3 O n k)
      = IntOp.shli .host (IntOp.andi (IntOp.shrsi .host
          (concatenate S4608x72x128 2 [⟨S4608x72x64, (extui 32 qh natLt_8_32)⟩, ⟨S4608x72x64, (extui 32 qh natLt_8_32)⟩] concatenates_S4608x72x64_S4608x72x64_S4608x72x128_d2 (ix3 O n k))
          (IntOp.addi (Scalar.select (IntOp.cmpi .slt (BitVec.ofNat 32 k.val) 64#32) 0#32 2#32) (BitVec.ofNat 32 (4 * hh.val)))) 3#32) 4#32 := rfl
  rw [e, cat2, shifts]
  have h := highBits ⟨2 * hh.val + k.val / 64, by omega⟩ ⟨(qh (ix3 O n ⟨k.val % 64, by omega⟩)).toNat, BitVec.isLt _⟩
  dsimp only at h
  rw [BitVec.ofNat_toNat, BitVec.setWidth_eq] at h
  exact h

/-- The codes of the first half at an index. -/
theorem code0T_apply (ql : IVec S4608x72x128 8) (qh : IVec S4608x72x64 8) (O : Fin 4608) (n : Fin 72) (k : Fin 128) :
    (code0T ql qh (ix3 O n k)).toInt = (codeNat ⟨k.val / 64, by omega⟩ (ql (ix3 O n k)) (qh (ix3 O n ⟨k.val % 64, by omega⟩)) : ℤ) := by
  have e : code0T ql qh (ix3 O n k) = IntOp.ori (IntOp.andi ((ql (ix3 O n k)).setWidth 32) 15#32) (fldT 0#32 qh (ix3 O n k)) := rfl
  have h := (lowBits ⟨(ql (ix3 O n k)).toNat, BitVec.isLt _⟩).1
  have f := fldT_apply 0 qh O n k
  dsimp only at h
  rw [BitVec.ofNat_toNat, BitVec.setWidth_eq] at h
  rw [e, h, show (0#32 : BitVec 32) = BitVec.ofNat 32 (4 * (0 : Fin 2).val) from rfl, f,
    codeInt ⟨(ql (ix3 O n k)).toNat % 16, by omega⟩ ⟨(qh (ix3 O n ⟨k.val % 64, by omega⟩)).toNat / 4 ^ (2 * (0 : Fin 2).val + k.val / 64) % 4, by omega⟩]
  have hk : k.val / 64 < 2 := by omega
  simp only [codeNat, if_pos hk, Fin.val_zero, Nat.mul_zero, Nat.zero_add]

/-- The codes of the second half at an index. -/
theorem code1T_apply (ql : IVec S4608x72x128 8) (qh : IVec S4608x72x64 8) (O : Fin 4608) (n : Fin 72) (k : Fin 128) :
    (code1T ql qh (ix3 O n k)).toInt = (codeNat ⟨2 + k.val / 64, by omega⟩ (ql (ix3 O n k)) (qh (ix3 O n ⟨k.val % 64, by omega⟩)) : ℤ) := by
  have e : code1T ql qh (ix3 O n k) = IntOp.ori (IntOp.shrsi .host ((ql (ix3 O n k)).setWidth 32) 4#32) (fldT 4#32 qh (ix3 O n k)) := rfl
  have h := (lowBits ⟨(ql (ix3 O n k)).toNat, BitVec.isLt _⟩).2
  have f := fldT_apply 1 qh O n k
  dsimp only at h
  rw [BitVec.ofNat_toNat, BitVec.setWidth_eq] at h
  rw [e, h, show (4#32 : BitVec 32) = BitVec.ofNat 32 (4 * (1 : Fin 2).val) from rfl, f,
    codeInt ⟨(ql (ix3 O n k)).toNat / 16, by have := (ql (ix3 O n k)).isLt; omega⟩ ⟨(qh (ix3 O n ⟨k.val % 64, by omega⟩)).toNat / 4 ^ (2 * (1 : Fin 2).val + k.val / 64) % 4, by omega⟩]
  have hk : ¬ 2 + k.val / 64 < 2 := by omega
  simp only [codeNat, if_neg hk, Fin.val_one, Nat.mul_one]

end Cert.Val
-- ==== Proof.Value.PointA.lean ====
module

public import proofs.«01_k».proof.Proof.Value.Step

@[expose] public section

set_option maxRecDepth 16384

noncomputable section

namespace Cert.KernelIdeal.Gen

open Idealize.ShloMosaic Idealize.ShloMosaic.TcCoe Idealize.ShloMosaic.Tactic

variable {F : FTy → Type} [FloatOps F]

/-! # The pieces the body leaves at the first chunk, as eight steps -/

/-- What the last store of the accumulator leaves at the first chunk: the eight steps of the point. -/
theorem acc_A (c : Dev nD) (i : grid0.Coords) (arg2 : Memref sig .tc .vmem S256x18432 .bf16) (harg2 : arg2.IsWhole)
    (arg3 : Memref sig .tc .vmem S512x8x128 .i8) (harg3 : arg3.IsWhole) (arg4 : Memref sig .tc .vmem S8x64x512 .i8) (harg4 : arg4.IsWhole)
    (arg5 : Memref sig .tc .vmem S8x16x512 .i8) (harg5 : arg5.IsWhole) (arg6 : Memref sig .tc .vmem S8x512 .i16) (harg6 : arg6.IsWhole)
    (arg8 : Memref sig .tc .vmem S256x512 .f32)
    (arg9 : Memref sig .tc .vmem S2x4x128x128 .i32) (arg10 : Memref sig .tc .vmem S8x16x512 .bf16)
    (x0 : Vec F S256x18432 .bf16) (x1 : Vec F S512x8x128 .i8) (x2 : Vec F S8x64x512 .i8) (x3 : Vec F S8x16x512 .i8)
    (x4 : Vec F S8x512 .i16) :
    k0_pay1 (kernelRun0_A.sl.r_691 c arg3 harg3 arg4 harg4 arg5 harg5 arg6 harg6 arg9 arg10 x1 x2 x3 x4)
      (kernelRun0_A.sl.v5503 c i arg2 harg2 arg3 harg3 arg4 harg4 arg5 harg5 arg6 harg6 arg8 arg9 arg10 x0 x1 x2 x3 x4)
      (View.readAt (Elt F) arg2.view (Rect.unit (s := S256x18432) (k0_off1 i 1792#32) S256x256.size (k0_off1_inb i 7)).toLoadRect (harg2.unread x0))
      = pointV x0 x1 x2 x3 x4 (chunk i) k0_pay3 := by
  unfold pointV
  refine (step_eq arg2 harg2 arg3 harg3 arg4 harg4 arg5 harg5 arg6 harg6 arg9 arg10 x0 x1 x2 x3 x4
    ![kernelRun0_A.sl.HS1_4 c arg3 harg3 x1, kernelRun0_A.sl.HS1_5 c arg3 harg3 x1, kernelRun0_A.sl.HS1_6 c arg3 harg3 x1, kernelRun0_A.sl.HS1_7 c arg3 harg3 x1] i 1 3 _ _).trans (congrArg (stepV x0 x1 x2 x3 x4 (chunk i) 1 3) ?_)
  refine (View.readCov_cons_toLoadRect _ _ _ _).trans ?_
  refine (step_eq arg2 harg2 arg3 harg3 arg4 harg4 arg5 harg5 arg6 harg6 arg9 arg10 x0 x1 x2 x3 x4
    ![kernelRun0_A.sl.HS1_4 c arg3 harg3 x1, kernelRun0_A.sl.HS1_5 c arg3 harg3 x1, kernelRun0_A.sl.HS1_6 c arg3 harg3 x1, kernelRun0_A.sl.HS1_7 c arg3 harg3 x1] i 1 2 _ _).trans (congrArg (stepV x0 x1 x2 x3 x4 (chunk i) 1 2) ?_)
  refine (View.readCov_cons_toLoadRect _ _ _ _).trans ?_
  refine (step_eq arg2 harg2 arg3 harg3 arg4 harg4 arg5 harg5 arg6 harg6 arg9 arg10 x0 x1 x2 x3 x4
    ![kernelRun0_A.sl.HS1_4 c arg3 harg3 x1, kernelRun0_A.sl.HS1_5 c arg3 harg3 x1, kernelRun0_A.sl.HS1_6 c arg3 harg3 x1, kernelRun0_A.sl.HS1_7 c arg3 harg3 x1] i 1 1 _ _).trans (congrArg (stepV x0 x1 x2 x3 x4 (chunk i) 1 1) ?_)
  refine (View.readCov_cons_toLoadRect _ _ _ _).trans ?_
  refine (step_eq arg2 harg2 arg3 harg3 arg4 harg4 arg5 harg5 arg6 harg6 arg9 arg10 x0 x1 x2 x3 x4
    ![kernelRun0_A.sl.HS1_4 c arg3 harg3 x1, kernelRun0_A.sl.HS1_5 c arg3 harg3 x1, kernelRun0_A.sl.HS1_6 c arg3 harg3 x1, kernelRun0_A.sl.HS1_7 c arg3 harg3 x1] i 1 0 _ _).trans (congrArg (stepV x0 x1 x2 x3 x4 (chunk i) 1 0) ?_)
  refine (View.readCov_cons_toLoadRect _ _ _ _).trans ?_
  refine (step_eq arg2 harg2 arg3 harg3 arg4 harg4 arg5 harg5 arg6 harg6 arg9 arg10 x0 x1 x2 x3 x4
    ![[], kernelRun0_A.sl.HS1_1 c arg3 harg3 x1, kernelRun0_A.sl.HS1_2 c arg3 harg3 x1, kernelRun0_A.sl.HS1_3 c arg3 harg3 x1] i 0 3 _ _).trans (congrArg (stepV x0 x1 x2 x3 x4 (chunk i) 0 3) ?_)
  refine (View.readCov_cons_toLoadRect _ _ _ _).trans ?_
  refine (step_eq arg2 harg2 arg3 harg3 arg4 harg4 arg5 harg5 arg6 harg6 arg9 arg10 x0 x1 x2 x3 x4
    ![[], kernelRun0_A.sl.HS1_1 c arg3 harg3 x1, kernelRun0_A.sl.HS1_2 c arg3 harg3 x1, kernelRun0_A.sl.HS1_3 c arg3 harg3 x1] i 0 2 _ _).trans (congrArg (stepV x0 x1 x2 x3 x4 (chunk i) 0 2) ?_)
  refine (View.readCov_cons_toLoadRect _ _ _ _).trans ?_
  refine (step_eq arg2 harg2 arg3 harg3 arg4 harg4 arg5 harg5 arg6 harg6 arg9 arg10 x0 x1 x2 x3 x4
    ![[], kernelRun0_A.sl.HS1_1 c arg3 harg3 x1, kernelRun0_A.sl.HS1_2 c arg3 harg3 x1, kernelRun0_A.sl.HS1_3 c arg3 harg3 x1] i 0 1 _ _).trans (congrArg (stepV x0 x1 x2 x3 x4 (chunk i) 0 1) ?_)
  refine (View.readCov_cons_toLoadRect _ _ _ _).trans ?_
  refine (step_eq arg2 harg2 arg3 harg3 arg4 harg4 arg5 harg5 arg6 harg6 arg9 arg10 x0 x1 x2 x3 x4
    ![[], kernelRun0_A.sl.HS1_1 c arg3 harg3 x1, kernelRun0_A.sl.HS1_2 c arg3 harg3 x1, kernelRun0_A.sl.HS1_3 c arg3 harg3 x1] i 0 0 _ _).trans (congrArg (stepV x0 x1 x2 x3 x4 (chunk i) 0 0) ?_)
  refine (View.readCov_cons_toLoadRect _ _ _ _).trans ?_
  rfl

end Cert.KernelIdeal.Gen
-- ==== Proof.Value.PointB.lean ====
module

public import proofs.«01_k».proof.Proof.Value.Step

@[expose] public section

set_option maxRecDepth 16384

noncomputable section

namespace Cert.KernelIdeal.Gen

open Idealize.ShloMosaic Idealize.ShloMosaic.TcCoe Idealize.ShloMosaic.Tactic

variable {F : FTy → Type} [FloatOps F]

/-! # The pieces the body leaves at a middle chunk, as eight steps -/

/-- What the last store of the accumulator leaves at a middle chunk: the eight steps of the point. -/
theorem acc_B (c : Dev nD) (i : grid0.Coords) (arg2 : Memref sig .tc .vmem S256x18432 .bf16) (harg2 : arg2.IsWhole)
    (arg3 : Memref sig .tc .vmem S512x8x128 .i8) (harg3 : arg3.IsWhole) (arg4 : Memref sig .tc .vmem S8x64x512 .i8) (harg4 : arg4.IsWhole)
    (arg5 : Memref sig .tc .vmem S8x16x512 .i8) (harg5 : arg5.IsWhole) (arg6 : Memref sig .tc .vmem S8x512 .i16) (harg6 : arg6.IsWhole)
    (arg8 : Memref sig .tc .vmem S256x512 .f32) (harg8 : arg8.IsWhole)
    (arg9 : Memref sig .tc .vmem S2x4x128x128 .i32) (arg10 : Memref sig .tc .vmem S8x16x512 .bf16)
    (x0 : Vec F S256x18432 .bf16) (x1 : Vec F S512x8x128 .i8) (x2 : Vec F S8x64x512 .i8) (x3 : Vec F S8x16x512 .i8)
    (x4 : Vec F S8x512 .i16) (xs0 : Vec F S256x512 .f32) :
    k0_pay1 (kernelRun0_B.sl.r_691 c arg3 harg3 arg4 harg4 arg5 harg5 arg6 harg6 arg9 arg10 x1 x2 x3 x4)
      (kernelRun0_B.sl.v5503 c i arg2 harg2 arg3 harg3 arg4 harg4 arg5 harg5 arg6 harg6 arg8 harg8 arg9 arg10 x0 x1 x2 x3 x4 xs0)
      (View.readAt (Elt F) arg2.view (Rect.unit (s := S256x18432) (k0_off1 i 1792#32) S256x256.size (k0_off1_inb i 7)).toLoadRect (harg2.unread x0))
      = pointV x0 x1 x2 x3 x4 (chunk i) xs0 := by
  unfold pointV
  refine (step_eq arg2 harg2 arg3 harg3 arg4 harg4 arg5 harg5 arg6 harg6 arg9 arg10 x0 x1 x2 x3 x4
    ![kernelRun0_B.sl.HS1_4 c arg3 harg3 x1, kernelRun0_B.sl.HS1_5 c arg3 harg3 x1, kernelRun0_B.sl.HS1_6 c arg3 harg3 x1, kernelRun0_B.sl.HS1_7 c arg3 harg3 x1] i 1 3 _ _).trans (congrArg (stepV x0 x1 x2 x3 x4 (chunk i) 1 3) ?_)
  refine (View.readCov_cons_toLoadRect _ _ _ _).trans ?_
  refine (step_eq arg2 harg2 arg3 harg3 arg4 harg4 arg5 harg5 arg6 harg6 arg9 arg10 x0 x1 x2 x3 x4
    ![kernelRun0_B.sl.HS1_4 c arg3 harg3 x1, kernelRun0_B.sl.HS1_5 c arg3 harg3 x1, kernelRun0_B.sl.HS1_6 c arg3 harg3 x1, kernelRun0_B.sl.HS1_7 c arg3 harg3 x1] i 1 2 _ _).trans (congrArg (stepV x0 x1 x2 x3 x4 (chunk i) 1 2) ?_)
  refine (View.readCov_cons_toLoadRect _ _ _ _).trans ?_
  refine (step_eq arg2 harg2 arg3 harg3 arg4 harg4 arg5 harg5 arg6 harg6 arg9 arg10 x0 x1 x2 x3 x4
    ![kernelRun0_B.sl.HS1_4 c arg3 harg3 x1, kernelRun0_B.sl.HS1_5 c arg3 harg3 x1, kernelRun0_B.sl.HS1_6 c arg3 harg3 x1, kernelRun0_B.sl.HS1_7 c arg3 harg3 x1] i 1 1 _ _).trans (congrArg (stepV x0 x1 x2 x3 x4 (chunk i) 1 1) ?_)
  refine (View.readCov_cons_toLoadRect _ _ _ _).trans ?_
  refine (step_eq arg2 harg2 arg3 harg3 arg4 harg4 arg5 harg5 arg6 harg6 arg9 arg10 x0 x1 x2 x3 x4
    ![kernelRun0_B.sl.HS1_4 c arg3 harg3 x1, kernelRun0_B.sl.HS1_5 c arg3 harg3 x1, kernelRun0_B.sl.HS1_6 c arg3 harg3 x1, kernelRun0_B.sl.HS1_7 c arg3 harg3 x1] i 1 0 _ _).trans (congrArg (stepV x0 x1 x2 x3 x4 (chunk i) 1 0) ?_)
  refine (View.readCov_cons_toLoadRect _ _ _ _).trans ?_
  refine (step_eq arg2 harg2 arg3 harg3 arg4 harg4 arg5 harg5 arg6 harg6 arg9 arg10 x0 x1 x2 x3 x4
    ![[], kernelRun0_B.sl.HS1_1 c arg3 harg3 x1, kernelRun0_B.sl.HS1_2 c arg3 harg3 x1, kernelRun0_B.sl.HS1_3 c arg3 harg3 x1] i 0 3 _ _).trans (congrArg (stepV x0 x1 x2 x3 x4 (chunk i) 0 3) ?_)
  refine (View.readCov_cons_toLoadRect _ _ _ _).trans ?_
  refine (step_eq arg2 harg2 arg3 harg3 arg4 harg4 arg5 harg5 arg6 harg6 arg9 arg10 x0 x1 x2 x3 x4
    ![[], kernelRun0_B.sl.HS1_1 c arg3 harg3 x1, kernelRun0_B.sl.HS1_2 c arg3 harg3 x1, kernelRun0_B.sl.HS1_3 c arg3 harg3 x1] i 0 2 _ _).trans (congrArg (stepV x0 x1 x2 x3 x4 (chunk i) 0 2) ?_)
  refine (View.readCov_cons_toLoadRect _ _ _ _).trans ?_
  refine (step_eq arg2 harg2 arg3 harg3 arg4 harg4 arg5 harg5 arg6 harg6 arg9 arg10 x0 x1 x2 x3 x4
    ![[], kernelRun0_B.sl.HS1_1 c arg3 harg3 x1, kernelRun0_B.sl.HS1_2 c arg3 harg3 x1, kernelRun0_B.sl.HS1_3 c arg3 harg3 x1] i 0 1 _ _).trans (congrArg (stepV x0 x1 x2 x3 x4 (chunk i) 0 1) ?_)
  refine (View.readCov_cons_toLoadRect _ _ _ _).trans ?_
  refine (step_eq arg2 harg2 arg3 harg3 arg4 harg4 arg5 harg5 arg6 harg6 arg9 arg10 x0 x1 x2 x3 x4
    ![[], kernelRun0_B.sl.HS1_1 c arg3 harg3 x1, kernelRun0_B.sl.HS1_2 c arg3 harg3 x1, kernelRun0_B.sl.HS1_3 c arg3 harg3 x1] i 0 0 _ _).trans (congrArg (stepV x0 x1 x2 x3 x4 (chunk i) 0 0) ?_)
  rw [View.readAt_eq_ld, harg8.read_unread]
  exact View.ld_unit_zero (funext fun a => by fin_cases a <;> rfl) _ _

end Cert.KernelIdeal.Gen
-- ==== Proof.Value.PointC.lean ====
module

public import proofs.«01_k».proof.Proof.Value.Step

@[expose] public section

set_option maxRecDepth 16384

noncomputable section

namespace Cert.KernelIdeal.Gen

open Idealize.ShloMosaic Idealize.ShloMosaic.TcCoe Idealize.ShloMosaic.Tactic

variable {F : FTy → Type} [FloatOps F]

/-! # The pieces the body leaves at the last chunk, as eight steps -/

/-- What the last store of the accumulator leaves at the last chunk: the eight steps of the point. -/
theorem acc_C (c : Dev nD) (i : grid0.Coords) (arg2 : Memref sig .tc .vmem S256x18432 .bf16) (harg2 : arg2.IsWhole)
    (arg3 : Memref sig .tc .vmem S512x8x128 .i8) (harg3 : arg3.IsWhole) (arg4 : Memref sig .tc .vmem S8x64x512 .i8) (harg4 : arg4.IsWhole)
    (arg5 : Memref sig .tc .vmem S8x16x512 .i8) (harg5 : arg5.IsWhole) (arg6 : Memref sig .tc .vmem S8x512 .i16) (harg6 : arg6.IsWhole)
    (arg8 : Memref sig .tc .vmem S256x512 .f32) (harg8 : arg8.IsWhole)
    (arg9 : Memref sig .tc .vmem S2x4x128x128 .i32) (arg10 : Memref sig .tc .vmem S8x16x512 .bf16)
    (x0 : Vec F S256x18432 .bf16) (x1 : Vec F S512x8x128 .i8) (x2 : Vec F S8x64x512 .i8) (x3 : Vec F S8x16x512 .i8)
    (x4 : Vec F S8x512 .i16) (xs0 : Vec F S256x512 .f32) :
    k0_pay1 (kernelRun0_C.sl.r_691 c arg3 harg3 arg4 harg4 arg5 harg5 arg6 harg6 arg9 arg10 x1 x2 x3 x4)
      (kernelRun0_C.sl.v5503 c i arg2 harg2 arg3 harg3 arg4 harg4 arg5 harg5 arg6 harg6 arg8 harg8 arg9 arg10 x0 x1 x2 x3 x4 xs0)
      (View.readAt (Elt F) arg2.view (Rect.unit (s := S256x18432) (k0_off1 i 1792#32) S256x256.size (k0_off1_inb i 7)).toLoadRect (harg2.unread x0))
      = pointV x0 x1 x2 x3 x4 (chunk i) xs0 := by
  unfold pointV
  refine (step_eq arg2 harg2 arg3 harg3 arg4 harg4 arg5 harg5 arg6 harg6 arg9 arg10 x0 x1 x2 x3 x4
    ![kernelRun0_C.sl.HS1_4 c arg3 harg3 x1, kernelRun0_C.sl.HS1_5 c arg3 harg3 x1, kernelRun0_C.sl.HS1_6 c arg3 harg3 x1, kernelRun0_C.sl.HS1_7 c arg3 harg3 x1] i 1 3 _ _).trans (congrArg (stepV x0 x1 x2 x3 x4 (chunk i) 1 3) ?_)
  refine (View.readCov_cons_toLoadRect _ _ _ _).trans ?_
  refine (step_eq arg2 harg2 arg3 harg3 arg4 harg4 arg5 harg5 arg6 harg6 arg9 arg10 x0 x1 x2 x3 x4
    ![kernelRun0_C.sl.HS1_4 c arg3 harg3 x1, kernelRun0_C.sl.HS1_5 c arg3 harg3 x1, kernelRun0_C.sl.HS1_6 c arg3 harg3 x1, kernelRun0_C.sl.HS1_7 c arg3 harg3 x1] i 1 2 _ _).trans (congrArg (stepV x0 x1 x2 x3 x4 (chunk i) 1 2) ?_)
  refine (View.readCov_cons_toLoadRect _ _ _ _).trans ?_
  refine (step_eq arg2 harg2 arg3 harg3 arg4 harg4 arg5 harg5 arg6 harg6 arg9 arg10 x0 x1 x2 x3 x4
    ![kernelRun0_C.sl.HS1_4 c arg3 harg3 x1, kernelRun0_C.sl.HS1_5 c arg3 harg3 x1, kernelRun0_C.sl.HS1_6 c arg3 harg3 x1, kernelRun0_C.sl.HS1_7 c arg3 harg3 x1] i 1 1 _ _).trans (congrArg (stepV x0 x1 x2 x3 x4 (chunk i) 1 1) ?_)
  refine (View.readCov_cons_toLoadRect _ _ _ _).trans ?_
  refine (step_eq arg2 harg2 arg3 harg3 arg4 harg4 arg5 harg5 arg6 harg6 arg9 arg10 x0 x1 x2 x3 x4
    ![kernelRun0_C.sl.HS1_4 c arg3 harg3 x1, kernelRun0_C.sl.HS1_5 c arg3 harg3 x1, kernelRun0_C.sl.HS1_6 c arg3 harg3 x1, kernelRun0_C.sl.HS1_7 c arg3 harg3 x1] i 1 0 _ _).trans (congrArg (stepV x0 x1 x2 x3 x4 (chunk i) 1 0) ?_)
  refine (View.readCov_cons_toLoadRect _ _ _ _).trans ?_
  refine (step_eq arg2 harg2 arg3 harg3 arg4 harg4 arg5 harg5 arg6 harg6 arg9 arg10 x0 x1 x2 x3 x4
    ![[], kernelRun0_C.sl.HS1_1 c arg3 harg3 x1, kernelRun0_C.sl.HS1_2 c arg3 harg3 x1, kernelRun0_C.sl.HS1_3 c arg3 harg3 x1] i 0 3 _ _).trans (congrArg (stepV x0 x1 x2 x3 x4 (chunk i) 0 3) ?_)
  refine (View.readCov_cons_toLoadRect _ _ _ _).trans ?_
  refine (step_eq arg2 harg2 arg3 harg3 arg4 harg4 arg5 harg5 arg6 harg6 arg9 arg10 x0 x1 x2 x3 x4
    ![[], kernelRun0_C.sl.HS1_1 c arg3 harg3 x1, kernelRun0_C.sl.HS1_2 c arg3 harg3 x1, kernelRun0_C.sl.HS1_3 c arg3 harg3 x1] i 0 2 _ _).trans (congrArg (stepV x0 x1 x2 x3 x4 (chunk i) 0 2) ?_)
  refine (View.readCov_cons_toLoadRect _ _ _ _).trans ?_
  refine (step_eq arg2 harg2 arg3 harg3 arg4 harg4 arg5 harg5 arg6 harg6 arg9 arg10 x0 x1 x2 x3 x4
    ![[], kernelRun0_C.sl.HS1_1 c arg3 harg3 x1, kernelRun0_C.sl.HS1_2 c arg3 harg3 x1, kernelRun0_C.sl.HS1_3 c arg3 harg3 x1] i 0 1 _ _).trans (congrArg (stepV x0 x1 x2 x3 x4 (chunk i) 0 1) ?_)
  refine (View.readCov_cons_toLoadRect _ _ _ _).trans ?_
  refine (step_eq arg2 harg2 arg3 harg3 arg4 harg4 arg5 harg5 arg6 harg6 arg9 arg10 x0 x1 x2 x3 x4
    ![[], kernelRun0_C.sl.HS1_1 c arg3 harg3 x1, kernelRun0_C.sl.HS1_2 c arg3 harg3 x1, kernelRun0_C.sl.HS1_3 c arg3 harg3 x1] i 0 0 _ _).trans (congrArg (stepV x0 x1 x2 x3 x4 (chunk i) 0 0) ?_)
  rw [View.readAt_eq_ld, harg8.read_unread]
  exact View.ld_unit_zero (funext fun a => by fin_cases a <;> rfl) _ _

end Cert.KernelIdeal.Gen
-- ==== Proof.Value.Points.lean ====
module

public import proofs.«01_k».proof.Proof.Value.PointA
public import proofs.«01_k».proof.Proof.Value.PointB
public import proofs.«01_k».proof.Proof.Value.PointC

@[expose] public section

set_option maxRecDepth 16384

noncomputable section

namespace Cert.KernelIdeal.Gen

open Idealize.ShloMosaic Idealize.ShloMosaic.TcCoe Idealize.ShloMosaic.Tactic

variable {F : FTy → Type} [FloatOps F]

/-! # What each grid point leaves -/

/-- The first chunk leaves the point's steps over zero. -/
theorem sout_A (c : Dev nD) (i : grid0.Coords) (arg2 : Memref sig .tc .vmem S256x18432 .bf16) (harg2 : arg2.IsWhole)
    (arg3 : Memref sig .tc .vmem S512x8x128 .i8) (harg3 : arg3.IsWhole) (arg4 : Memref sig .tc .vmem S8x64x512 .i8) (harg4 : arg4.IsWhole)
    (arg5 : Memref sig .tc .vmem S8x16x512 .i8) (harg5 : arg5.IsWhole) (arg6 : Memref sig .tc .vmem S8x512 .i16) (harg6 : arg6.IsWhole)
    (arg7 : Memref sig .tc .vmem S256x512 .bf16) (harg7 : arg7.IsWhole) (arg8 : Memref sig .tc .vmem S256x512 .f32) (harg8 : arg8.IsWhole)
    (arg9 : Memref sig .tc .vmem S2x4x128x128 .i32) (harg9 : arg9.IsWhole) (arg10 : Memref sig .tc .vmem S8x16x512 .bf16) (harg10 : arg10.IsWhole)
    (hc0 : cond0_0 i) (hc1 : ¬cond0_1 i)
    (x0 : Vec F S256x18432 .bf16) (x1 : Vec F S512x8x128 .i8) (x2 : Vec F S8x64x512 .i8) (x3 : Vec F S8x16x512 .i8)
    (x4 : Vec F S8x512 .i16) :
    sout0_A_0 c i arg2 harg2 arg3 harg3 arg4 harg4 arg5 harg5 arg6 harg6 arg7 harg7 arg8 harg8 arg9 harg9 arg10 harg10 hc0 hc1 x0 x1 x2 x3 x4 = pointV x0 x1 x2 x3 x4 (chunk i) k0_pay3 := by
  unfold sout0_A_0
  rw [View.read_writes_junk_eq_canon]
  exact (View.canon_cons_unit_zero (funext fun a => by fin_cases a <;> rfl) _ _ _).trans
    (acc_A c i arg2 harg2 arg3 harg3 arg4 harg4 arg5 harg5 arg6 harg6 arg8 arg9 arg10 x0 x1 x2 x3 x4)

/-- A middle chunk leaves the point's steps over what the point before left. -/
theorem sout_B (c : Dev nD) (i : grid0.Coords) (arg2 : Memref sig .tc .vmem S256x18432 .bf16) (harg2 : arg2.IsWhole)
    (arg3 : Memref sig .tc .vmem S512x8x128 .i8) (harg3 : arg3.IsWhole) (arg4 : Memref sig .tc .vmem S8x64x512 .i8) (harg4 : arg4.IsWhole)
    (arg5 : Memref sig .tc .vmem S8x16x512 .i8) (harg5 : arg5.IsWhole) (arg6 : Memref sig .tc .vmem S8x512 .i16) (harg6 : arg6.IsWhole)
    (arg7 : Memref sig .tc .vmem S256x512 .bf16) (harg7 : arg7.IsWhole) (arg8 : Memref sig .tc .vmem S256x512 .f32) (harg8 : arg8.IsWhole)
    (arg9 : Memref sig .tc .vmem S2x4x128x128 .i32) (harg9 : arg9.IsWhole) (arg10 : Memref sig .tc .vmem S8x16x512 .bf16) (harg10 : arg10.IsWhole)
    (hc0 : ¬cond0_0 i) (hc1 : ¬cond0_1 i)
    (x0 : Vec F S256x18432 .bf16) (x1 : Vec F S512x8x128 .i8) (x2 : Vec F S8x64x512 .i8) (x3 : Vec F S8x16x512 .i8)
    (x4 : Vec F S8x512 .i16) (xs0 : Vec F S256x512 .f32) :
    sout0_B_0 c i arg2 harg2 arg3 harg3 arg4 harg4 arg5 harg5 arg6 harg6 arg7 harg7 arg8 harg8 arg9 harg9 arg10 harg10 hc0 hc1 x0 x1 x2 x3 x4 xs0 = pointV x0 x1 x2 x3 x4 (chunk i) xs0 := by
  unfold sout0_B_0
  rw [View.read_writes_junk_eq_canon]
  exact (View.canon_cons_unit_zero (funext fun a => by fin_cases a <;> rfl) _ _ _).trans
    (acc_B c i arg2 harg2 arg3 harg3 arg4 harg4 arg5 harg5 arg6 harg6 arg8 harg8 arg9 arg10 x0 x1 x2 x3 x4 xs0)

/-- The last chunk leaves the point's steps over what the point before left. -/
theorem sout_C (c : Dev nD) (i : grid0.Coords) (arg2 : Memref sig .tc .vmem S256x18432 .bf16) (harg2 : arg2.IsWhole)
    (arg3 : Memref sig .tc .vmem S512x8x128 .i8) (harg3 : arg3.IsWhole) (arg4 : Memref sig .tc .vmem S8x64x512 .i8) (harg4 : arg4.IsWhole)
    (arg5 : Memref sig .tc .vmem S8x16x512 .i8) (harg5 : arg5.IsWhole) (arg6 : Memref sig .tc .vmem S8x512 .i16) (harg6 : arg6.IsWhole)
    (arg7 : Memref sig .tc .vmem S256x512 .bf16) (harg7 : arg7.IsWhole) (arg8 : Memref sig .tc .vmem S256x512 .f32) (harg8 : arg8.IsWhole)
    (arg9 : Memref sig .tc .vmem S2x4x128x128 .i32) (harg9 : arg9.IsWhole) (arg10 : Memref sig .tc .vmem S8x16x512 .bf16) (harg10 : arg10.IsWhole)
    (hc0 : ¬cond0_0 i) (hc1 : cond0_1 i)
    (x0 : Vec F S256x18432 .bf16) (x1 : Vec F S512x8x128 .i8) (x2 : Vec F S8x64x512 .i8) (x3 : Vec F S8x16x512 .i8)
    (x4 : Vec F S8x512 .i16) (xs0 : Vec F S256x512 .f32) :
    sout0_C_0 c i arg2 harg2 arg3 harg3 arg4 harg4 arg5 harg5 arg6 harg6 arg7 harg7 arg8 harg8 arg9 harg9 arg10 harg10 hc0 hc1 x0 x1 x2 x3 x4 xs0 = pointV x0 x1 x2 x3 x4 (chunk i) xs0 := by
  unfold sout0_C_0
  rw [View.read_writes_junk_eq_canon]
  exact (View.canon_cons_unit_zero (funext fun a => by fin_cases a <;> rfl) _ _ _).trans
    (acc_C c i arg2 harg2 arg3 harg3 arg4 harg4 arg5 harg5 arg6 harg6 arg8 harg8 arg9 arg10 x0 x1 x2 x3 x4 xs0)

/-- … and writes them out. -/
theorem out_C (c : Dev nD) (i : grid0.Coords) (arg2 : Memref sig .tc .vmem S256x18432 .bf16) (harg2 : arg2.IsWhole)
    (arg3 : Memref sig .tc .vmem S512x8x128 .i8) (harg3 : arg3.IsWhole) (arg4 : Memref sig .tc .vmem S8x64x512 .i8) (harg4 : arg4.IsWhole)
    (arg5 : Memref sig .tc .vmem S8x16x512 .i8) (harg5 : arg5.IsWhole) (arg6 : Memref sig .tc .vmem S8x512 .i16) (harg6 : arg6.IsWhole)
    (arg7 : Memref sig .tc .vmem S256x512 .bf16) (harg7 : arg7.IsWhole) (arg8 : Memref sig .tc .vmem S256x512 .f32) (harg8 : arg8.IsWhole)
    (arg9 : Memref sig .tc .vmem S2x4x128x128 .i32) (harg9 : arg9.IsWhole) (arg10 : Memref sig .tc .vmem S8x16x512 .bf16) (harg10 : arg10.IsWhole)
    (hc0 : ¬cond0_0 i) (hc1 : cond0_1 i)
    (x0 : Vec F S256x18432 .bf16) (x1 : Vec F S512x8x128 .i8) (x2 : Vec F S8x64x512 .i8) (x3 : Vec F S8x16x512 .i8)
    (x4 : Vec F S8x512 .i16) (xs0 : Vec F S256x512 .f32) :
    out0_C_5 c i arg2 harg2 arg3 harg3 arg4 harg4 arg5 harg5 arg6 harg6 arg7 harg7 arg8 harg8 arg9 harg9 arg10 harg10 hc0 hc1 x0 x1 x2 x3 x4 xs0 = truncf .bf16 (pointV x0 x1 x2 x3 x4 (chunk i) xs0) bitsLt_bf16_f32 := by
  unfold out0_C_5
  rw [View.read_writes_junk_eq_canon]
  refine (View.canon_unit_zero (funext fun a => by fin_cases a <;> rfl) _ _).trans ?_
  exact congrArg k0_pay2 ((View.readCov_cons_toLoadRect _ _ _ _).trans
    (acc_C c i arg2 harg2 arg3 harg3 arg4 harg4 arg5 harg5 arg6 harg6 arg8 harg8 arg9 arg10 x0 x1 x2 x3 x4 xs0))

variable (m : (ℓ : Loc nD τ sig) → Buf (Elt F) ℓ)

/-- The steps of point `t` on its blocks. -/
def pointAt (c : Dev nD) (t : Fin cfg0.N) (acc : Vec F S256x512 .f32) : Vec F S256x512 .f32 :=
  pointV (iblk m c 0 t) (iblk m c 1 t) (iblk m c 2 t) (iblk m c 3 t) (iblk m c 4 t) (chunk (grid0.coords t)) acc

/-- The accumulator after the first point of an output block. -/
theorem acc_first (c : Dev nD) (t : Fin cfg0.N) (h0 : t.val % 9 = 0) :
    (outsAt0 m c t.val t.isLt).2 = pointAt m c t k0_pay3 := by
  rw [outsAt0_A m c t h0 (by omega)]
  dsimp only; unfold pointAt
  exact sout_A (F := F) c (grid0.coords t) _ _ _ _ _ _ _ _ _ _ _ _ _ _ _ _ _ _ _ _ _ _ _ _ _

/-- The accumulator after a later point. -/
theorem acc_next (c : Dev nD) (t : Fin cfg0.N) (h0 : ¬t.val % 9 = 0) :
    (outsAt0 m c t.val t.isLt).2
      = pointAt m c t (outsAt0 m c (t.val - 1) (Nat.lt_of_le_of_lt (Nat.sub_le _ _) t.isLt)).2 := by
  by_cases h1 : t.val % 9 = 8
  · rw [outsAt0_C m c t h0 h1]
    dsimp only; unfold pointAt
    exact sout_C (F := F) c (grid0.coords t) _ _ _ _ _ _ _ _ _ _ _ _ _ _ _ _ _ _ _ _ _ _ _ _ _ _
  · rw [outsAt0_B m c t h0 h1]
    dsimp only; unfold pointAt
    exact sout_B (F := F) c (grid0.coords t) _ _ _ _ _ _ _ _ _ _ _ _ _ _ _ _ _ _ _ _ _ _ _ _ _ _

/-- The block written out is the accumulator after its last point, rounded. -/
theorem out_last (c : Dev nD) (t : Fin cfg0.N) (h1 : t.val % 9 = 8) :
    (outsAt0 m c t.val t.isLt).1 = truncf .bf16 (outsAt0 m c t.val t.isLt).2 bitsLt_bf16_f32 := by
  rw [acc_next m c t (by omega), outsAt0_C m c t (by omega) h1]
  dsimp only; unfold pointAt
  exact out_C (F := F) c (grid0.coords t) _ _ _ _ _ _ _ _ _ _ _ _ _ _ _ _ _ _ _ _ _ _ _ _ _ _

end Cert.KernelIdeal.Gen
-- ==== Proof.Value.Blocks.lean ====
/-
  The input blocks of a grid point, read off the program's arguments.
-/
module

public import proofs.«01_k».proof.Proof.Gen.KernelIdeal.Value
public import Idealize.ShloMosaic.Lib.Pointwise
public import Idealize.ShloMosaic.Lib.Pipeline.ValueKit.Point
public import Idealize.ShloMosaic.Lib.Claim

@[expose] public section

set_option maxRecDepth 16384

noncomputable section

namespace Cert.Val

open Idealize.ShloMosaic Idealize.ShloMosaic.TcCoe Idealize.ShloMosaic.Tactic Cert.KernelIdeal Cert.KernelIdeal.Gen

/-- The index maps of the five inputs, in closed form. -/
theorem idx : ∀ t : Fin cfg0.N, win0_0.index t = ![0, 0] ∧ win0_1.index t = ![t.val / 9, t.val % 9, 0]
    ∧ win0_2.index t = ![t.val % 9, 0, t.val / 9] ∧ win0_3.index t = ![t.val % 9, 0, t.val / 9]
    ∧ win0_4.index t = ![t.val % 9, t.val / 9] := by
  decide +kernel

/-- The chunk of a grid point. -/
theorem chunk_val : ∀ t : Fin grid0.N, (grid0.coords t 1).val = t.val % 9 := by
  decide +kernel

/-- Number of grid points. -/
theorem cfgN : cfg0.N = 81 := rfl

variable (m : (ℓ : Loc nD τ sig) → Buf (Elt Ideal) ℓ) (c : Dev nD)

/-- The block of activations. -/
theorem blk_x (t : Fin cfg0.N) (r : Fin 256) (k : Fin 18432) :
    iblk m c 0 t (ix2 r k : S256x18432.Idx) = m ((c : Thread nD τ).loc main_arg0) (ix3 r 0 k) := by
  obtain ⟨h0, h1, h2, h3, h4⟩ := idx t
  blk_ext! [iblk, V, h0]

/-- The block of low nibbles. -/
theorem blk_ql (t : Fin cfg0.N) (o : Fin 512) (n : Fin 8) (k : Fin 128) (O : Fin 4608) (N : Fin 72)
    (hO : O.val = 512 * (t.val / 9) + o.val) (hN : N.val = 8 * (t.val % 9) + n.val) :
    iblk m c 1 t (ix3 o n k : S512x8x128.Idx) = m ((c : Thread nD τ).loc main_arg1) (ix3 O N k) := by
  obtain ⟨h0, h1, h2, h3, h4⟩ := idx t
  blk_ext! [iblk, V, h1]

/-- The block of high bits. -/
theorem blk_qh (t : Fin cfg0.N) (n : Fin 8) (k : Fin 64) (o : Fin 512) (O : Fin 4608) (N : Fin 72)
    (hO : O.val = 512 * (t.val / 9) + o.val) (hN : N.val = 8 * (t.val % 9) + n.val) :
    iblk m c 2 t (ix3 n k o : S8x64x512.Idx) = m ((c : Thread nD τ).loc main_arg2) (ix3 O N k) := by
  obtain ⟨h0, h1, h2, h3, h4⟩ := idx t
  blk_ext! [iblk, V, h2]

/-- The block of sub block scales. -/
theorem blk_sc (t : Fin cfg0.N) (n : Fin 8) (s : Fin 16) (o : Fin 512) (O : Fin 4608) (N : Fin 72)
    (hO : O.val = 512 * (t.val / 9) + o.val) (hN : N.val = 8 * (t.val % 9) + n.val) :
    iblk m c 3 t (ix3 n s o : S8x16x512.Idx) = m ((c : Thread nD τ).loc main_arg3) (ix3 O N s) := by
  obtain ⟨h0, h1, h2, h3, h4⟩ := idx t
  blk_ext! [iblk, V, h3]

/-- The block of super block scales. -/
theorem blk_d (t : Fin cfg0.N) (n : Fin 8) (o : Fin 512) (O : Fin 4608) (N : Fin 72)
    (hO : O.val = 512 * (t.val / 9) + o.val) (hN : N.val = 8 * (t.val % 9) + n.val) :
    iblk m c 4 t (ix2 n o : S8x512.Idx) = m ((c : Thread nD τ).loc main_arg4) (ix2 O N) := by
  obtain ⟨h0, h1, h2, h3, h4⟩ := idx t
  blk_ext! [iblk, V, h4]

end Cert.Val
-- ==== Proof.Value.Fold.lean ====
/-
  The kernel's result at an index: the sum, over the 72 super blocks, of the products of the activations with the
  dequantized weights.
-/
module

public import proofs.«01_k».proof.Proof.Value.Points
public import proofs.«01_k».proof.Proof.Value.Elem
public import proofs.«01_k».proof.Proof.Value.Blocks

@[expose] public section

set_option maxRecDepth 16384

noncomputable section

namespace Cert.Val

open Idealize.ShloMosaic Idealize.ShloMosaic.TcCoe Idealize.ShloMosaic.Tactic Cert.KernelIdeal Cert.KernelIdeal.Gen

section Term

variable (A0 : S256x1x18432.Idx → EReal) (A1 : S4608x72x128.Idx → BitVec 8) (A2 : S4608x72x64.Idx → BitVec 8)
  (A3 : S4608x72x16.Idx → BitVec 8) (A4 : S4608x72.Idx → BitVec 16)

/-- One product: row `r` of the activations and output column `O`, at element `k` of super block `n`. -/
def prod (r : Fin 256) (O : Fin 4608) (n : Fin 72) (k : Fin 256) : EReal :=
  A0 (ix3 r 0 ⟨256 * n.val + k.val, by omega⟩)
    * wgt ⟨k.val / 64, by omega⟩ (A1 (ix3 O n ⟨k.val % 128, by omega⟩)) (A2 (ix3 O n ⟨k.val % 64, by omega⟩)) (A4 (ix2 O n))
        (A3 (ix3 O n ⟨k.val / 16, by omega⟩))

/-- A super block's share of the result at row `r` and column `O`. -/
def blockSum (r : Fin 256) (O : Fin 4608) (n : ℕ) : EReal :=
  if h : n < 72 then ∑ k : Fin 256, prod A0 A1 A2 A3 A4 r O ⟨n, h⟩ k else 0

end Term

variable (m : (ℓ : Loc nD τ sig) → Buf (Elt Ideal) ℓ) (c : Dev nD)

/-- A super block's share, from the kernel's arguments. -/
def kSum (r : Fin 256) (O : Fin 4608) (n : ℕ) : EReal :=
  blockSum (m ((c : Thread nD τ).loc main_arg0)) (m ((c : Thread nD τ).loc main_arg1)) (m ((c : Thread nD τ).loc main_arg2))
    (m ((c : Thread nD τ).loc main_arg3)) (m ((c : Thread nD τ).loc main_arg4)) r O n

/-- One accumulation step of a grid point adds one super block's share. -/
theorem step_sum (t : Fin cfg0.N) (g : Fin 2) (j : Fin 4) (acc : Vec Ideal S256x512 .f32) (r : Fin 256) (o : Fin 512) (O : Fin 4608)
    (hO : O.val = 512 * (t.val / 9) + o.val) :
    stepV (F := Ideal) (iblk m c 0 t) (iblk m c 1 t) (iblk m c 2 t) (iblk m c 3 t) (iblk m c 4 t) (chunk (grid0.coords t)) g j acc (ix2 r o)
      = acc (ix2 r o) + kSum m c r O (8 * (t.val % 9) + (nOf g j).val) := by
  rw [stepV_apply]
  have hn := (nOf g j).isLt
  have hN : 8 * (t.val % 9) + (nOf g j).val < 72 := by omega
  have hc : (chunk (grid0.coords t)).val = t.val % 9 := chunk_val t
  unfold kSum blockSum
  rw [dif_pos hN]
  refine congrArg (fun z => acc (ix2 r o) + z) (Finset.sum_congr rfl fun k _ => ?_)
  unfold prod
  rw [blk_x m c t, blk_ql m c t o (nOf g j) _ O ⟨_, hN⟩ hO rfl, blk_qh m c t (nOf g j) _ o O ⟨_, hN⟩ hO rfl,
    blk_sc m c t (nOf g j) _ o O ⟨_, hN⟩ hO rfl, blk_d m c t (nOf g j) o O ⟨_, hN⟩ hO rfl]
  have e : (⟨2048 * (chunk (grid0.coords t)).val + 256 * (nOf g j).val + k.val, by omega⟩ : Fin 18432)
      = ⟨256 * (8 * (t.val % 9) + (nOf g j).val) + k.val, by omega⟩ := Fin.ext (by dsimp only; omega)
  rw [e]

/-- A grid point adds its eight super blocks' shares. -/
theorem point_sum (t : Fin cfg0.N) (acc : Vec Ideal S256x512 .f32) (r : Fin 256) (o : Fin 512) (O : Fin 4608)
    (hO : O.val = 512 * (t.val / 9) + o.val) :
    pointAt (F := Ideal) m c t acc (ix2 r o) = acc (ix2 r o) + ∑ n ∈ Finset.range 8, kSum m c r O (8 * (t.val % 9) + n) := by
  unfold pointAt pointV
  rw [step_sum m c t 1 3 _ r o O hO, step_sum m c t 1 2 _ r o O hO, step_sum m c t 1 1 _ r o O hO, step_sum m c t 1 0 _ r o O hO,
    step_sum m c t 0 3 _ r o O hO, step_sum m c t 0 2 _ r o O hO, step_sum m c t 0 1 _ r o O hO, step_sum m c t 0 0 _ r o O hO]
  simp only [Finset.sum_range_succ, Finset.sum_range_zero, zero_add, ← add_assoc]
  rfl

/-- The initial accumulator. -/
theorem init_zero (r : Fin 256) (o : Fin 512) : (k0_pay3 (F := Ideal)) (ix2 r o) = (0 : EReal) := by
  pointwise [k0_pay3]

/-- The accumulator after chunk `q` of column block `b`: the shares of the first `8 (q + 1)` super blocks. -/
theorem acc_sum (b : Fin 9) (r : Fin 256) (o : Fin 512) (O : Fin 4608) (hO : O.val = 512 * b.val + o.val) :
    ∀ (q : ℕ) (hq : q < 9) (h : 9 * b.val + q < cfg0.N),
      (outsAt0 m c (9 * b.val + q) h).2 (ix2 r o) = ∑ n ∈ Finset.range (8 * (q + 1)), kSum m c r O n := by
  intro q
  induction q with
  | zero =>
    intro hq h
    have hm : (9 * b.val + 0) % 9 = 0 := by omega
    have hd : (9 * b.val + 0) / 9 = b.val := by omega
    have e := acc_first (F := Ideal) m c ⟨9 * b.val + 0, h⟩ hm
    dsimp only at e
    rw [e, point_sum m c ⟨9 * b.val + 0, h⟩ _ r o O (by dsimp only; rw [hd]; exact hO), init_zero, zero_add]
    dsimp only
    rw [hm]
    simp only [Nat.mul_zero, Nat.zero_add, Nat.mul_one]
  | succ q ih =>
    intro hq h
    have hm : (9 * b.val + (q + 1)) % 9 = q + 1 := by omega
    have hd : (9 * b.val + (q + 1)) / 9 = b.val := by omega
    have hp : 9 * b.val + (q + 1) - 1 = 9 * b.val + q := by omega
    have e := acc_next (F := Ideal) m c ⟨9 * b.val + (q + 1), h⟩ (by dsimp only; omega)
    dsimp only at e
    rw [e, point_sum m c ⟨9 * b.val + (q + 1), h⟩ _ r o O (by dsimp only; rw [hd]; exact hO)]
    have ih' := ih (by omega) (by omega)
    have cg : ∀ (p p' : ℕ) (hh : p < cfg0.N) (hh' : p' < cfg0.N), p = p' → (outsAt0 m c p hh).2 = (outsAt0 m c p' hh').2 := by
      intro p p' hh hh' e; subst e; rfl
    rw [cg _ _ _ (by omega) hp, ih']
    dsimp only
    rw [hm, show 8 * (q + 1 + 1) = 8 * (q + 1) + 8 by ring, Finset.sum_range_add]

/-- The kernel's result at row `r` and column `O`. -/
theorem kernel_apply (r : Fin 256) (O : Fin 4608) :
    Cert.KernelIdeal.Value.G5 (F := Ideal) m c (ix2 r O : S256x4608.Idx) = ∑ n ∈ Finset.range 72, kSum m c r O n := by
  have hb : O.val / 512 < 9 := by omega
  have hpt : Cert.KernelIdeal.Value.pt5Of (ix2 r O : S256x4608.Idx) = 9 * (O.val / 512) + 8 := by
    show 9 * (9 * (r.val / 256 - 0) + 1 * (O.val / 512 - 0)) + 8 = _
    omega
  have hlt : Cert.KernelIdeal.Value.pt5Of (ix2 r O : S256x4608.Idx) < cfg0.N := by rw [hpt, cfgN]; omega
  have hloc : Cert.KernelIdeal.Value.loc5Of (ix2 r O : S256x4608.Idx) = ix2 r ⟨O.val % 512, by omega⟩ := by
    funext a
    apply Fin.ext
    match a with
    | ⟨0, _⟩ => show r.val % 256 = r.val; omega
    | ⟨1, _⟩ => rfl
  have cg : ∀ (p p' : ℕ) (hh : p < cfg0.N) (hh' : p' < cfg0.N), p = p' → outsAt0 m c p hh = outsAt0 m c p' hh' := by
    intro p p' hh hh' e; subst e; rfl
  unfold Cert.KernelIdeal.Value.G5
  rw [dif_pos hlt]
  rw [← Cert.KernelIdeal.Value.outsAt0_sweep m c _ hlt, hloc, cg _ (9 * (O.val / 512) + 8) hlt (by rw [cfgN]; omega) hpt]
  have e := out_last (F := Ideal) m c ⟨9 * (O.val / 512) + 8, by rw [cfgN]; omega⟩ (by dsimp only; omega)
  dsimp only at e
  rw [e]
  exact acc_sum m c ⟨O.val / 512, hb⟩ r ⟨O.val % 512, by omega⟩ O (by dsimp only; omega) 8 (by omega) _

end Cert.Val
-- ==== Proof.Value.Ref.lean ====
/-
  The reference's result at an index is the kernel's sum over the super blocks.
-/
module

public import proofs.«01_k».proof.Proof.Value.RefElem
public import proofs.«01_k».proof.Proof.Value.Fold

@[expose] public section

set_option maxRecDepth 16384

noncomputable section

namespace Cert.Val

open Idealize.ShloMosaic Idealize.ShloMosaic.TcCoe Cert.ReferenceIdeal Cert.ReferenceIdeal.Gen

section

variable (A0 : FVec Ideal S256x1x18432 .bf16) (A1 : IVec S4608x72x128 8) (A2 : IVec S4608x72x64 8) (A3 : IVec S4608x72x16 8) (A4 : IVec S4608x72 16)

/-- A code less the offset, as one real number. -/
theorem code_sub (z : ℤ) (n : ℕ) (h : z = (n : ℤ)) :
    (((z : ℝ) : EReal) - Ideal.ofBits .bf16 0x4200#16) = (((n : ℝ) - 32 : ℝ) : EReal) := by
  rw [thirtytwo, h, EReal.coe_sub, Int.cast_natCast]

/-- A product of the first half of a super block. -/
theorem half0 (r : Fin 256) (O : Fin 4608) (n : Fin 72) (k : Fin 128) :
    x0T (F := Ideal) A0 (ix3 r n k) * w0T (F := Ideal) (code0T A1 A2) (rowsT (F := Ideal) (effT (F := Ideal) A4 A3)) (ix3 O n k)
      = prod A0 A1 A2 A3 A4 r O n (Fin.castAdd 128 k) := by
  have hk := k.isLt
  rw [x0T_apply, w0T_apply, rowsT_apply, effT_apply, code_sub _ _ (code0T_apply A1 A2 O n k), prod, wgt]
  have i0 : (⟨n.val * 256 + k.val, by omega⟩ : Fin 18432) = ⟨256 * n.val + (Fin.castAdd 128 k).val, by have := (Fin.castAdd 128 k).isLt; omega⟩ :=
    Fin.ext (by simp only [Fin.val_castAdd]; omega)
  have i1 : k = ⟨(Fin.castAdd 128 k).val % 128, by omega⟩ := Fin.ext (by simp only [Fin.val_castAdd]; omega)
  rw [i0]
  congr 2
  · rw [← i1]
    rfl

/-- A product of the second half of a super block. -/
theorem half1 (r : Fin 256) (O : Fin 4608) (n : Fin 72) (k : Fin 128) :
    x1T (F := Ideal) A0 (ix3 r n k) * w1T (F := Ideal) (code1T A1 A2) (rowsT (F := Ideal) (effT (F := Ideal) A4 A3)) (ix3 O n k)
      = prod A0 A1 A2 A3 A4 r O n (Fin.natAdd 128 k) := by
  have hk := k.isLt
  rw [x1T_apply, w1T_apply, rowsT_apply, effT_apply, code_sub _ _ (code1T_apply A1 A2 O n k), prod, wgt]
  have i0 : (⟨n.val * 256 + 128 + k.val, by omega⟩ : Fin 18432) = ⟨256 * n.val + (Fin.natAdd 128 k).val, by have := (Fin.natAdd 128 k).isLt; omega⟩ :=
    Fin.ext (by simp only [Fin.val_natAdd]; omega)
  have i1 : (⟨(Fin.natAdd 128 k).val % 128, by omega⟩ : Fin 128) = k := Fin.ext (by simp only [Fin.val_natAdd]; omega)
  have i2 : (⟨(Fin.natAdd 128 k).val % 64, by omega⟩ : Fin 64) = ⟨k.val % 64, by omega⟩ := Fin.ext (by simp only [Fin.val_natAdd]; omega)
  have i3 : (⟨(Fin.natAdd 128 k).val / 64, by have := (Fin.natAdd 128 k).isLt; omega⟩ : Fin 4) = ⟨2 + k.val / 64, by omega⟩ :=
    Fin.ext (by simp only [Fin.val_natAdd]; omega)
  rw [i0, i1, i2, i3]
  rfl

/-- The reference's terms at an index, super block by super block. -/
theorem terms_apply (r : Fin 256) (O : Fin 4608) :
    outT (F := Ideal) (x0T (F := Ideal) A0) (x1T (F := Ideal) A0)
        (w0T (F := Ideal) (code0T A1 A2) (rowsT (F := Ideal) (effT (F := Ideal) A4 A3)))
        (w1T (F := Ideal) (code1T A1 A2) (rowsT (F := Ideal) (effT (F := Ideal) A4 A3))) (ix2 r O)
      = ∑ n ∈ Finset.range 72, blockSum A0 A1 A2 A3 A4 r O n := by
  rw [outT_apply, Finset.sum_comm, Finset.sum_comm (f := fun k n => x1T (F := Ideal) A0 (ix3 r n k) * _), ← Finset.sum_add_distrib, Finset.sum_range]
  refine Finset.sum_congr rfl fun n _ => ?_
  rw [blockSum, dif_pos n.isLt]
  refine Eq.trans ?_ (Fin.sum_univ_add (a := 128) (b := 128) fun k => prod A0 A1 A2 A3 A4 r O n k).symm
  exact congrArg₂ (· + ·) (Finset.sum_congr rfl fun k _ => half0 A0 A1 A2 A3 A4 r O n k) (Finset.sum_congr rfl fun k _ => half1 A0 A1 A2 A3 A4 r O n k)

end

/-- The reference's result at an index is the sum over the super blocks of their shares. -/
theorem ref_apply (m : (ℓ : Loc nD τ sig) → Buf (Elt Ideal) ℓ) (c : Dev nD) (r : Fin 256) (O : Fin 4608) :
    Cert.ReferenceIdeal.Value.res_main_v91 (F := Ideal) m c (ix2 r O)
      = ∑ n ∈ Finset.range 72, blockSum (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) r O n :=
  (congrFun (res_eq (F := Ideal) m c) (ix2 r O)).trans (terms_apply _ _ _ _ _ r O)

end Cert.Val
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Value.Ref

@[expose] public section

noncomputable section

namespace Cert.Proof

open Idealize.ShloMosaic Idealize.SL.Sem

/-- The reference runs and leaves no semaphore counting. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's, on the extended reals. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨h0, h1, h2, h3, h4⟩ := hagree c
  funext i
  obtain ⟨r, O, rfl⟩ : ∃ (r : Fin 256) (O : Fin 4608), i = ix2 r O := ⟨i 0, i 1, (ix2_eta i).symm⟩
  refine (Cert.Val.ref_apply m' c r O).trans ?_
  rw [h0, h1, h2, h3, h4]
  exact (Cert.Val.kernel_apply m c r O).symm

/-- All the claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
